-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_bounded [hPre_scales_bounded : Cert.Pre_scales_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_scales_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_scales_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_bounded [hPre_scales_bounded : Cert.Pre_scales_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_scales_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scales_bounded [hKernelIdeal : Cert.KernelIdeal.Facts] [hPre_scales_bounded : Cert.Pre_scales_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scales_bounded [hReferenceIdeal : Cert.ReferenceIdeal.Facts] [hPre_scales_bounded : Cert.Pre_scales_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_k" .f32 0x3A2AAAAB#32 ((1 / 1536 : ℝ) : EReal)

def algebraic_KernelIdeal_ReferenceIdeal_pre_scales_bounded [hKernelIdeal : Cert.KernelIdeal.Facts] [hReferenceIdeal : Cert.ReferenceIdeal.Facts] [hPre_scales_bounded : Cert.Pre_scales_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scales_bounded : Cert.Pre_scales_bounded.Facts),
    quiescent_Kernel (hKernel := hKernel)
    ∧ quiescent_KernelIdeal (hKernelIdeal := hKernelIdeal)
    ∧ quiescent_KernelIdeal_pre_scales_bounded (hKernelIdeal := hKernelIdeal) (hPre_scales_bounded := hPre_scales_bounded)
    ∧ quiescent_ReferenceIdeal (hReferenceIdeal := hReferenceIdeal)
    ∧ quiescent_ReferenceIdeal_pre_scales_bounded (hReferenceIdeal := hReferenceIdeal) (hPre_scales_bounded := hPre_scales_bounded)
    ∧ preserves_Kernel_KernelIdeal
    ∧ algebraic_KernelIdeal_ReferenceIdeal_pre_scales_bounded (hKernelIdeal := hKernelIdeal) (hReferenceIdeal := hReferenceIdeal) (hPre_scales_bounded := hPre_scales_bounded)
-- ==== Pre_scales_bounded.lean ====
abbrev S1024x1x1536 : Shape := ⟨3, ![1024, 1, 1536]⟩
abbrev S1536 : Shape := ⟨1, ![1536]⟩
abbrev S8960x768 : Shape := ⟨2, ![8960, 768]⟩
abbrev S8960x48 : Shape := ⟨2, ![8960, 48]⟩
abbrev S_ : Shape := ⟨0, ![]⟩

class Facts : Prop where
  bcast_S_S1536 : S_.BroadcastsInDim S1536 (![] : Fin 0 → Fin S1536.rank)
  bcast_S_S8960x48 : S_.BroadcastsInDim S8960x48 (![] : Fin 0 → Fin S8960x48.rank)

variable [Facts]

def fn {F : FTy → Type} [FloatOps F] (main_arg0 : FVec F S1024x1x1536 .bf16) (main_arg1 : FVec F S1536 .f32) (main_arg2 : IVec S8960x768 8) (main_arg3 : FVec F S8960x48 .bf16) : IVec S1536 1 × IVec S8960x48 1 :=
  let main_v0 : FVec F S1536 .f32 := Host.absf main_arg1
  let main_cst : FVec F S_ .f32 := constant S_ .f32 0x5B800000#32
  let main_v1 : FVec F S1536 .f32 := broadcastInDim S1536 ![] bcast_S_S1536 main_cst
  let main_v2 : IVec S1536 1 := cmpf .ole main_v0 main_v1
  let main_v3 : FVec F S8960x48 .bf16 := Host.absf main_arg3
  let main_cst_0 : FVec F S_ .bf16 := constant S_ .bf16 0x5B80#16
  let main_v4 : FVec F S8960x48 .bf16 := broadcastInDim S8960x48 ![] bcast_S_S8960x48 main_cst_0
  let main_v5 : IVec S8960x48 1 := cmpf .ole main_v3 main_v4
  (main_v2, main_v5)
-- ==== Kernel.lean ====
abbrev S1024x1x1536 : Shape := ⟨3, ![1024, 1, 1536]⟩
abbrev S1536 : Shape := ⟨1, ![1536]⟩
abbrev S8960x768 : Shape := ⟨2, ![8960, 768]⟩
abbrev S8960x48 : Shape := ⟨2, ![8960, 48]⟩
abbrev S1024x1536 : Shape := ⟨2, ![1024, 1536]⟩
abbrev S1x1536 : Shape := ⟨2, ![1, 1536]⟩
abbrev S48x8960 : Shape := ⟨2, ![48, 8960]⟩
abbrev S1024x8960 : Shape := ⟨2, ![1024, 8960]⟩
abbrev S70x1x1024 : Shape := ⟨3, ![70, 1, 1024]⟩
abbrev S256x768 : Shape := ⟨2, ![256, 768]⟩
abbrev S48x256 : Shape := ⟨2, ![48, 256]⟩
abbrev S1024x256 : Shape := ⟨2, ![1024, 256]⟩
abbrev S64x1536 : Shape := ⟨2, ![64, 1536]⟩
abbrev S64 : Shape := ⟨1, ![64]⟩
abbrev S64x1 : Shape := ⟨2, ![64, 1]⟩
abbrev S64x128 : Shape := ⟨2, ![64, 128]⟩
abbrev S64x256 : Shape := ⟨2, ![64, 256]⟩
abbrev S64x128x1 : Shape := ⟨3, ![64, 128, 1]⟩
abbrev S1x128 : Shape := ⟨2, ![1, 128]⟩
abbrev S16x128 : Shape := ⟨2, ![16, 128]⟩
abbrev S128x128 : Shape := ⟨2, ![128, 128]⟩
abbrev S128x1536 : Shape := ⟨2, ![128, 1536]⟩
abbrev S256x1536 : Shape := ⟨2, ![256, 1536]⟩
abbrev S128 : Shape := ⟨1, ![128]⟩
abbrev S128x1 : Shape := ⟨2, ![128, 1]⟩
abbrev S8x128 : Shape := ⟨2, ![8, 128]⟩
abbrev S1x1x128 : Shape := ⟨3, ![1, 1, 128]⟩

abbrev nBuf : Space → Nat
  | .hbm => 9
  | .vmem => 10
  | .smem => 0
  | _ => 0

abbrev bufTy : (tb : Table) → Fin (tcTables nBuf tb) → BufTy
  | .hbm, ⟨0, _⟩ => ⟨S1024x1x1536, .bf16⟩
  | .hbm, ⟨1, _⟩ => ⟨S1536, .f32⟩
  | .hbm, ⟨2, _⟩ => ⟨S8960x768, .i8⟩
  | .hbm, ⟨3, _⟩ => ⟨S8960x48, .bf16⟩
  | .hbm, ⟨4, _⟩ => ⟨S1024x1536, .bf16⟩
  | .hbm, ⟨5, _⟩ => ⟨S1x1536, .f32⟩
  | .hbm, ⟨6, _⟩ => ⟨S48x8960, .bf16⟩
  | .hbm, ⟨7, _⟩ => ⟨S1024x8960, .fp8e4m3⟩
  | .hbm, ⟨8, _⟩ => ⟨S70x1x1024, .f32⟩
  | .local _ .vmem, ⟨0, _⟩ => ⟨S1024x1536, .bf16⟩
  | .local _ .vmem, ⟨1, _⟩ => ⟨S1x1536, .f32⟩
  | .local _ .vmem, ⟨2, _⟩ => ⟨S256x768, .i8⟩
  | .local _ .vmem, ⟨3, _⟩ => ⟨S256x768, .i8⟩
  | .local _ .vmem, ⟨4, _⟩ => ⟨S48x256, .bf16⟩
  | .local _ .vmem, ⟨5, _⟩ => ⟨S48x256, .bf16⟩
  | .local _ .vmem, ⟨6, _⟩ => ⟨S1024x256, .fp8e4m3⟩
  | .local _ .vmem, ⟨7, _⟩ => ⟨S1024x256, .fp8e4m3⟩
  | .local _ .vmem, ⟨8, _⟩ => ⟨S70x1x1024, .f32⟩
  | .local _ .vmem, ⟨9, _⟩ => ⟨S1024x1536, .bf16⟩
  | _, _ => ⟨S1024x1x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![35], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2602 : BitVec 32 := 0#32
  let c16_i32 : BitVec 32 := 16#32
  let v8852 : BitVec 32 := Scalar.addi c0_i32_2602 c16_i32
  let c1_i32_2603 : BitVec 32 := 1#32
  ⟨c0_i32_2602, v8852, c1_i32_2603⟩
def k0_mult1 (k0_t1 : Fin k0_t1_loop.trips) : BitVec 32 :=
  let c0_i32_2606 : BitVec 32 := 0#32
  let c0_i32_2602 : BitVec 32 := 0#32
  let c1_i32_2603 : BitVec 32 := 1#32
  let arg8 : BitVec 32 := Scf.iv c0_i32_2602 c1_i32_2603 k0_t1
  let c1_i32_2605 : BitVec 32 := 1#32
  let v8853 : BitVec 32 := Scalar.muli arg8 c1_i32_2605
  let v8854 : BitVec 32 := Scalar.addi c0_i32_2606 v8853
  let c64_i32 : BitVec 32 := 64#32
  let v8855 : BitVec 32 := Scalar.muli v8854 c64_i32
  v8855
def k0_off1 (k0_t1 : Fin k0_t1_loop.trips) : Fin 2 → Nat :=
  let c0_i32_2606 : BitVec 32 := 0#32
  let c0_i32_2602 : BitVec 32 := 0#32
  let c1_i32_2603 : BitVec 32 := 1#32
  let arg8 : BitVec 32 := Scf.iv c0_i32_2602 c1_i32_2603 k0_t1
  let c1_i32_2605 : BitVec 32 := 1#32
  let v8853 : BitVec 32 := Scalar.muli arg8 c1_i32_2605
  let v8854 : BitVec 32 := Scalar.addi c0_i32_2606 v8853
  let c64_i32 : BitVec 32 := 64#32
  let v8855 : BitVec 32 := Scalar.muli v8854 c64_i32
  let v8856 : BitVec 32 := v8855
  let v8857 : Index := Scalar.indexCast v8856
  let c0_2607 : Index := 0#32
  ![v8857.toNat, 0]
def k0_off2 (k0_t1 : Fin k0_t1_loop.trips) : Fin 2 → Nat :=
  let c0_i32_2606 : BitVec 32 := 0#32
  let c0_i32_2602 : BitVec 32 := 0#32
  let c1_i32_2603 : BitVec 32 := 1#32
  let arg8 : BitVec 32 := Scf.iv c0_i32_2602 c1_i32_2603 k0_t1
  let c1_i32_2605 : BitVec 32 := 1#32
  let v8853 : BitVec 32 := Scalar.muli arg8 c1_i32_2605
  let v8854 : BitVec 32 := Scalar.addi c0_i32_2606 v8853
  let c64_i32 : BitVec 32 := 64#32
  let v8855 : BitVec 32 := Scalar.muli v8854 c64_i32
  let v8856 : BitVec 32 := v8855
  let v8981 : Index := Scalar.indexCast v8856
  let c0_2642 : Index := 0#32
  ![v8981.toNat, 0]
def k0_off3 (k0_t1 : Fin k0_t1_loop.trips) : Fin 2 → Nat :=
  let c0_i32_2606 : BitVec 32 := 0#32
  let c0_i32_2602 : BitVec 32 := 0#32
  let c1_i32_2603 : BitVec 32 := 1#32
  let arg8 : BitVec 32 := Scf.iv c0_i32_2602 c1_i32_2603 k0_t1
  let c1_i32_2605 : BitVec 32 := 1#32
  let v8853 : BitVec 32 := Scalar.muli arg8 c1_i32_2605
  let v8854 : BitVec 32 := Scalar.addi c0_i32_2606 v8853
  let c64_i32 : BitVec 32 := 64#32
  let v8855 : BitVec 32 := Scalar.muli v8854 c64_i32
  let v8856 : BitVec 32 := v8855
  let v8986 : Index := Scalar.indexCast v8856
  let c128_2643 : Index := 128#32
  ![v8986.toNat, 128]
def k0_off4 (k0_t1 : Fin k0_t1_loop.trips) : Fin 2 → Nat :=
  let c0_i32_2606 : BitVec 32 := 0#32
  let c0_i32_2602 : BitVec 32 := 0#32
  let c1_i32_2603 : BitVec 32 := 1#32
  let arg8 : BitVec 32 := Scf.iv c0_i32_2602 c1_i32_2603 k0_t1
  let c1_i32_2605 : BitVec 32 := 1#32
  let v8853 : BitVec 32 := Scalar.muli arg8 c1_i32_2605
  let v8854 : BitVec 32 := Scalar.addi c0_i32_2606 v8853
  let c64_i32 : BitVec 32 := 64#32
  let v8855 : BitVec 32 := Scalar.muli v8854 c64_i32
  let v8856 : BitVec 32 := v8855
  let v9094 : Index := Scalar.indexCast v8856
  let c256_2675 : Index := 256#32
  ![v9094.toNat, 256]
def k0_off5 (k0_t1 : Fin k0_t1_loop.trips) : Fin 2 → Nat :=
  let c0_i32_2606 : BitVec 32 := 0#32
  let c0_i32_2602 : BitVec 32 := 0#32
  let c1_i32_2603 : BitVec 32 := 1#32
  let arg8 : BitVec 32 := Scf.iv c0_i32_2602 c1_i32_2603 k0_t1
  let c1_i32_2605 : BitVec 32 := 1#32
  let v8853 : BitVec 32 := Scalar.muli arg8 c1_i32_2605
  let v8854 : BitVec 32 := Scalar.addi c0_i32_2606 v8853
  let c64_i32 : BitVec 32 := 64#32
  let v8855 : BitVec 32 := Scalar.muli v8854 c64_i32
  let v8856 : BitVec 32 := v8855
  let v9099 : Index := Scalar.indexCast v8856
  let c384_2676 : Index := 384#32
  ![v9099.toNat, 384]
def k0_off6 (k0_t1 : Fin k0_t1_loop.trips) : Fin 2 → Nat :=
  let c0_i32_2606 : BitVec 32 := 0#32
  let c0_i32_2602 : BitVec 32 := 0#32
  let c1_i32_2603 : BitVec 32 := 1#32
  let arg8 : BitVec 32 := Scf.iv c0_i32_2602 c1_i32_2603 k0_t1
  let c1_i32_2605 : BitVec 32 := 1#32
  let v8853 : BitVec 32 := Scalar.muli arg8 c1_i32_2605
  let v8854 : BitVec 32 := Scalar.addi c0_i32_2606 v8853
  let c64_i32 : BitVec 32 := 64#32
  let v8855 : BitVec 32 := Scalar.muli v8854 c64_i32
  let v8856 : BitVec 32 := v8855
  let v9207 : Index := Scalar.indexCast v8856
  let c512_2708 : Index := 512#32
  ![v9207.toNat, 512]
def k0_off7 (k0_t1 : Fin k0_t1_loop.trips) : Fin 2 → Nat :=
  let c0_i32_2606 : BitVec 32 := 0#32
  let c0_i32_2602 : BitVec 32 := 0#32
  let c1_i32_2603 : BitVec 32 := 1#32
  let arg8 : BitVec 32 := Scf.iv c0_i32_2602 c1_i32_2603 k0_t1
  let c1_i32_2605 : BitVec 32 := 1#32
  let v8853 : BitVec 32 := Scalar.muli arg8 c1_i32_2605
  let v8854 : BitVec 32 := Scalar.addi c0_i32_2606 v8853
  let c64_i32 : BitVec 32 := 64#32
  let v8855 : BitVec 32 := Scalar.muli v8854 c64_i32
  let v8856 : BitVec 32 := v8855
  let v9212 : Index := Scalar.indexCast v8856
  let c640_2709 : Index := 640#32
  ![v9212.toNat, 640]
def k0_off8 (k0_t1 : Fin k0_t1_loop.trips) : Fin 2 → Nat :=
  let c0_i32_2606 : BitVec 32 := 0#32
  let c0_i32_2602 : BitVec 32 := 0#32
  let c1_i32_2603 : BitVec 32 := 1#32
  let arg8 : BitVec 32 := Scf.iv c0_i32_2602 c1_i32_2603 k0_t1
  let c1_i32_2605 : BitVec 32 := 1#32
  let v8853 : BitVec 32 := Scalar.muli arg8 c1_i32_2605
  let v8854 : BitVec 32 := Scalar.addi c0_i32_2606 v8853
  let c64_i32 : BitVec 32 := 64#32
  let v8855 : BitVec 32 := Scalar.muli v8854 c64_i32
  let v8856 : BitVec 32 := v8855
  let v9320 : Index := Scalar.indexCast v8856
  let c768_2741 : Index := 768#32
  ![v9320.toNat, 768]
def k0_off9 (k0_t1 : Fin k0_t1_loop.trips) : Fin 2 → Nat :=
  let c0_i32_2606 : BitVec 32 := 0#32
  let c0_i32_2602 : BitVec 32 := 0#32
  let c1_i32_2603 : BitVec 32 := 1#32
  let arg8 : BitVec 32 := Scf.iv c0_i32_2602 c1_i32_2603 k0_t1
  let c1_i32_2605 : BitVec 32 := 1#32
  let v8853 : BitVec 32 := Scalar.muli arg8 c1_i32_2605
  let v8854 : BitVec 32 := Scalar.addi c0_i32_2606 v8853
  let c64_i32 : BitVec 32 := 64#32
  let v8855 : BitVec 32 := Scalar.muli v8854 c64_i32
  let v8856 : BitVec 32 := v8855
  let v9325 : Index := Scalar.indexCast v8856
  let c896_2742 : Index := 896#32
  ![v9325.toNat, 896]
def k0_off10 (k0_t1 : Fin k0_t1_loop.trips) : Fin 2 → Nat :=
  let c0_i32_2606 : BitVec 32 := 0#32
  let c0_i32_2602 : BitVec 32 := 0#32
  let c1_i32_2603 : BitVec 32 := 1#32
  let arg8 : BitVec 32 := Scf.iv c0_i32_2602 c1_i32_2603 k0_t1
  let c1_i32_2605 : BitVec 32 := 1#32
  let v8853 : BitVec 32 := Scalar.muli arg8 c1_i32_2605
  let v8854 : BitVec 32 := Scalar.addi c0_i32_2606 v8853
  let c64_i32 : BitVec 32 := 64#32
  let v8855 : BitVec 32 := Scalar.muli v8854 c64_i32
  let v8856 : BitVec 32 := v8855
  let v9433 : Index := Scalar.indexCast v8856
  let c1024 : Index := 1024#32
  ![v9433.toNat, 1024]
def k0_off11 (k0_t1 : Fin k0_t1_loop.trips) : Fin 2 → Nat :=
  let c0_i32_2606 : BitVec 32 := 0#32
  let c0_i32_2602 : BitVec 32 := 0#32
  let c1_i32_2603 : BitVec 32 := 1#32
  let arg8 : BitVec 32 := Scf.iv c0_i32_2602 c1_i32_2603 k0_t1
  let c1_i32_2605 : BitVec 32 := 1#32
  let v8853 : BitVec 32 := Scalar.muli arg8 c1_i32_2605
  let v8854 : BitVec 32 := Scalar.addi c0_i32_2606 v8853
  let c64_i32 : BitVec 32 := 64#32
  let v8855 : BitVec 32 := Scalar.muli v8854 c64_i32
  let v8856 : BitVec 32 := v8855
  let v9438 : Index := Scalar.indexCast v8856
  let c1152 : Index := 1152#32
  ![v9438.toNat, 1152]
def k0_off12 (k0_t1 : Fin k0_t1_loop.trips) : Fin 2 → Nat :=
  let c0_i32_2606 : BitVec 32 := 0#32
  let c0_i32_2602 : BitVec 32 := 0#32
  let c1_i32_2603 : BitVec 32 := 1#32
  let arg8 : BitVec 32 := Scf.iv c0_i32_2602 c1_i32_2603 k0_t1
  let c1_i32_2605 : BitVec 32 := 1#32
  let v8853 : BitVec 32 := Scalar.muli arg8 c1_i32_2605
  let v8854 : BitVec 32 := Scalar.addi c0_i32_2606 v8853
  let c64_i32 : BitVec 32 := 64#32
  let v8855 : BitVec 32 := Scalar.muli v8854 c64_i32
  let v8856 : BitVec 32 := v8855
  let v9546 : Index := Scalar.indexCast v8856
  let c1280 : Index := 1280#32
  ![v9546.toNat, 1280]
def k0_off13 (k0_t1 : Fin k0_t1_loop.trips) : Fin 2 → Nat :=
  let c0_i32_2606 : BitVec 32 := 0#32
  let c0_i32_2602 : BitVec 32 := 0#32
  let c1_i32_2603 : BitVec 32 := 1#32
  let arg8 : BitVec 32 := Scf.iv c0_i32_2602 c1_i32_2603 k0_t1
  let c1_i32_2605 : BitVec 32 := 1#32
  let v8853 : BitVec 32 := Scalar.muli arg8 c1_i32_2605
  let v8854 : BitVec 32 := Scalar.addi c0_i32_2606 v8853
  let c64_i32 : BitVec 32 := 64#32
  let v8855 : BitVec 32 := Scalar.muli v8854 c64_i32
  let v8856 : BitVec 32 := v8855
  let v9551 : Index := Scalar.indexCast v8856
  let c1408 : Index := 1408#32
  ![v9551.toNat, 1408]
def k0_off14 (i : grid0.Coords) (c0_i32_336 : BitVec 32) : Fin 3 → Nat :=
  let arg0 : BitVec 32 := BitVec.ofNat 32 (i 0).val
  let c2_i32_335 : BitVec 32 := 2#32
  let v1106 : BitVec 32 := Scalar.muli arg0 c2_i32_335
  let v1107 : BitVec 32 := Scalar.addi v1106 c0_i32_336
  let v1108 : Index := Scalar.indexCast v1107
  let c0_337 : Index := 0#32
  let c0_338 : Index := 0#32
  ![v1108.toNat, 0, 0]
def k0_off15 (i : grid0.Coords) (c0_i32_487 : BitVec 32) : Fin 3 → Nat :=
  let arg0 : BitVec 32 := BitVec.ofNat 32 (i 0).val
  let c2_i32_486 : BitVec 32 := 2#32
  let v1622 : BitVec 32 := Scalar.muli arg0 c2_i32_486
  let v1623 : BitVec 32 := Scalar.addi v1622 c0_i32_487
  let v1624 : Index := Scalar.indexCast v1623
  let c0_488 : Index := 0#32
  let c128_489 : Index := 128#32
  ![v1624.toNat, 0, 128]
def k0_off16 (i : grid0.Coords) (c0_i32_638 : BitVec 32) : Fin 3 → Nat :=
  let arg0 : BitVec 32 := BitVec.ofNat 32 (i 0).val
  let c2_i32_637 : BitVec 32 := 2#32
  let v2138 : BitVec 32 := Scalar.muli arg0 c2_i32_637
  let v2139 : BitVec 32 := Scalar.addi v2138 c0_i32_638
  let v2140 : Index := Scalar.indexCast v2139
  let c0_639 : Index := 0#32
  let c256_640 : Index := 256#32
  ![v2140.toNat, 0, 256]
def k0_off17 (i : grid0.Coords) (c0_i32_789 : BitVec 32) : Fin 3 → Nat :=
  let arg0 : BitVec 32 := BitVec.ofNat 32 (i 0).val
  let c2_i32_788 : BitVec 32 := 2#32
  let v2654 : BitVec 32 := Scalar.muli arg0 c2_i32_788
  let v2655 : BitVec 32 := Scalar.addi v2654 c0_i32_789
  let v2656 : Index := Scalar.indexCast v2655
  let c0_790 : Index := 0#32
  let c384_791 : Index := 384#32
  ![v2656.toNat, 0, 384]
def k0_off18 (i : grid0.Coords) (c0_i32_940 : BitVec 32) : Fin 3 → Nat :=
  let arg0 : BitVec 32 := BitVec.ofNat 32 (i 0).val
  let c2_i32_939 : BitVec 32 := 2#32
  let v3170 : BitVec 32 := Scalar.muli arg0 c2_i32_939
  let v3171 : BitVec 32 := Scalar.addi v3170 c0_i32_940
  let v3172 : Index := Scalar.indexCast v3171
  let c0_941 : Index := 0#32
  let c512_942 : Index := 512#32
  ![v3172.toNat, 0, 512]
def k0_off19 (i : grid0.Coords) (c0_i32_1091 : BitVec 32) : Fin 3 → Nat :=
  let arg0 : BitVec 32 := BitVec.ofNat 32 (i 0).val
  let c2_i32_1090 : BitVec 32 := 2#32
  let v3686 : BitVec 32 := Scalar.muli arg0 c2_i32_1090
  let v3687 : BitVec 32 := Scalar.addi v3686 c0_i32_1091
  let v3688 : Index := Scalar.indexCast v3687
  let c0_1092 : Index := 0#32
  let c640_1093 : Index := 640#32
  ![v3688.toNat, 0, 640]
def k0_off20 (i : grid0.Coords) (c0_i32_1241 : BitVec 32) : Fin 3 → Nat :=
  let arg0 : BitVec 32 := BitVec.ofNat 32 (i 0).val
  let c2_i32_1240 : BitVec 32 := 2#32
  let v4202 : BitVec 32 := Scalar.muli arg0 c2_i32_1240
  let v4203 : BitVec 32 := Scalar.addi v4202 c0_i32_1241
  let v4204 : Index := Scalar.indexCast v4203
  let c0_1242 : Index := 0#32
  let c768_1243 : Index := 768#32
  ![v4204.toNat, 0, 768]
def k0_off21 (i : grid0.Coords) (c0_i32_1391 : BitVec 32) : Fin 3 → Nat :=
  let arg0 : BitVec 32 := BitVec.ofNat 32 (i 0).val
  let c2_i32_1390 : BitVec 32 := 2#32
  let v4718 : BitVec 32 := Scalar.muli arg0 c2_i32_1390
  let v4719 : BitVec 32 := Scalar.addi v4718 c0_i32_1391
  let v4720 : Index := Scalar.indexCast v4719
  let c0_1392 : Index := 0#32
  let c896_1393 : Index := 896#32
  ![v4720.toNat, 0, 896]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1024x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S70x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inv_k" => some ((1 / 1536 : ℝ) : EReal)
  | _ => none
-- ==== ReferenceIdeal.lean ====
abbrev S1024x1x1536 : Shape := ⟨3, ![1024, 1, 1536]⟩
abbrev S1536 : Shape := ⟨1, ![1536]⟩
abbrev S8960x768 : Shape := ⟨2, ![8960, 768]⟩
abbrev S8960x48 : Shape := ⟨2, ![8960, 48]⟩
abbrev S1024x8960 : Shape := ⟨2, ![1024, 8960]⟩
abbrev S70x1x1024 : Shape := ⟨3, ![70, 1, 1024]⟩
abbrev S1024x1536 : Shape := ⟨2, ![1024, 1536]⟩
abbrev S1024 : Shape := ⟨1, ![1024]⟩
abbrev S1024x1 : Shape := ⟨2, ![1024, 1]⟩
abbrev S1x1536 : Shape := ⟨2, ![1, 1536]⟩
abbrev S8960x48x16 : Shape := ⟨3, ![8960, 48, 16]⟩
abbrev S8960x48x1 : Shape := ⟨3, ![8960, 48, 1]⟩
abbrev S1024x48x32 : Shape := ⟨3, ![1024, 48, 32]⟩
abbrev S1024x48x16 : Shape := ⟨3, ![1024, 48, 16]⟩
abbrev S1024x768 : Shape := ⟨2, ![1024, 768]⟩
abbrev S1024x70x128 : Shape := ⟨3, ![1024, 70, 128]⟩
abbrev S1024x70 : Shape := ⟨2, ![1024, 70]⟩
abbrev S1024x70x1 : Shape := ⟨3, ![1024, 70, 1]⟩
abbrev S70x1024 : Shape := ⟨2, ![70, 1024]⟩

abbrev nBuf : Space → Nat
  | .hbm => 6
  | .vmem => 6
  | .smem => 0
  | _ => 0

abbrev bufTy : (tb : Table) → Fin (tcTables nBuf tb) → BufTy
  | .hbm, ⟨0, _⟩ => ⟨S1024x1x1536, .bf16⟩
  | .hbm, ⟨1, _⟩ => ⟨S1536, .f32⟩
  | .hbm, ⟨2, _⟩ => ⟨S8960x768, .i8⟩
  | .hbm, ⟨3, _⟩ => ⟨S8960x48, .bf16⟩
  | .hbm, ⟨4, _⟩ => ⟨S1024x8960, .fp8e4m3⟩
  | .hbm, ⟨5, _⟩ => ⟨S70x1x1024, .f32⟩
  | .local _ .vmem, ⟨0, _⟩ => ⟨S1024x1x1536, .bf16⟩
  | .local _ .vmem, ⟨1, _⟩ => ⟨S1536, .f32⟩
  | .local _ .vmem, ⟨2, _⟩ => ⟨S8960x768, .i8⟩
  | .local _ .vmem, ⟨3, _⟩ => ⟨S8960x48, .bf16⟩
  | .local _ .vmem, ⟨4, _⟩ => ⟨S1024x8960, .fp8e4m3⟩
  | .local _ .vmem, ⟨5, _⟩ => ⟨S70x1x1024, .f32⟩
  | _, _ => ⟨S1024x1x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1024x1x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8960x768 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960x48 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x8960 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S70x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Runs.lean ====
/- What the two runs of the kernel body share: where its conditional is taken, the staging memrefs of a point, and
   the scratch as a memref of its own. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 35 = 0 :=
  (fun t => by
    have ht : t.val < 35 := Nat.lt_of_lt_of_eq t.isLt N_0
    have e0 : (grid0.coords t 0).val = t.val / 1 % 35 := Pipeline.Grid.coords_val t 0 (by decide) rfl
    simp only [cond0_0, k0_cond1, e0]
    word_cmp
   : ∀ t : Fin grid0.N, cond0_0 (grid0.coords t) ↔ t.val % 35 = 0)

/-! ## The kernel body on any staging memrefs: a subtype the run finds -/

/-- One staging buffer of output window 4, through which its contents are stated (`View.read_writes_of_cover`: the
    choice does not matter). -/
abbrev VO0_4 : View sig .tc .vmem S1024x256 .fp8e4m3 := (Memref.whole cc0_stg4_0 : Memref sig .tc .vmem S1024x256 .fp8e4m3).view
/-- One staging buffer of output window 5, through which its contents are stated (`View.read_writes_of_cover`: the
    choice does not matter). -/
abbrev VO0_5 : View sig .tc .vmem S70x1x1024 .f32 := (Memref.whole cc0_stg5_0 : Memref sig .tc .vmem S70x1x1024 .f32).view
/-- Each window's current staging memref at point `t`, spelled as the pipeline passes it (`bodyAt0`), and its wholeness. -/
abbrev ms0_0 (t : Fin cfg0.N) : Memref sig .tc .vmem S1024x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S70x1x1024 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x1536 .bf16 := Memref.whole cc0_scratch0
/-- The scratch `arg7` the kernel carries between points, as a view: what it holds is stated through it. -/
abbrev VS0_0 : View sig .tc .vmem S1024x1536 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.RunA.lean ====
/- The kernel body run once, at the first point, where it fills the scratch: the pieces it stores into each memref. -/
module

public import proofs.«01_k».proof.Proof.Runs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 6000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S256x768 .i8) (harg3 : arg3.IsWhole) (arg4 : Memref sig .tc .vmem S48x256 .bf16) (harg4 : arg4.IsWhole) (arg5 : Memref sig .tc .vmem S1024x256 .fp8e4m3) (harg5 : arg5.IsWhole) (arg6 : Memref sig .tc .vmem S70x1x1024 .f32) (harg6 : arg6.IsWhole) (arg7 : Memref sig .tc .vmem S1024x1536 .bf16) (harg7 : arg7.IsWhole) (hc0 : cond0_0 i)
    (x0 : Vec F S1024x1536 .bf16) (x1 : Vec F S1x1536 .f32) (x2 : Vec F S256x768 .i8) (x3 : Vec F S48x256 .bf16) :
    Σ' (L4 : List (View.Piece (Elt F) S1024x256 .fp8e4m3)), Σ' (L5 : List (View.Piece (Elt F) S70x1x1024 .f32)), { LS0 : List (View.Piece (Elt F) S1024x1536 .bf16) //
      ∀ (E : Set ℕ) (f5 : BufTy.Contents (Elt F) arg6.view.ty) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (arg6.view.loc (c : Thread nD τ) ↦[arg6.view.set]{fullShare} f5) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (arg6.view.loc (c : Thread nD τ) ↦[arg6.view.set]{fullShare} arg6.view.writes (Elt F) f5 L5) ∗ (∃ f, arg7.view.loc (c : Thread nD τ) ↦[arg7.view.set]{fullShare} arg7.view.writes (Elt F) f LS0)) -∗ K ⟨⟩))
          ⊢ wp frame (wpE (defs₀ (F := F)) Variants.none c none) E (cc0_rmsnorm_q4_linear_fp8 i arg1 harg1 arg2 harg2 arg3 harg3 arg4 harg4 arg5 harg5 arg6 harg6 arg7 harg7) K } := by
  refine ⟨?_, ?_, ?_, fun E f5 K => ?run⟩
  case run =>
    simp only [cc0_rmsnorm_q4_linear_fp8_eq_skeleton]; unfold cc0_rmsnorm_q4_linear_fp8_skel
    simp only [k0_part208_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part209_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part210_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part211_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton]
    unfold owns
    iintro ⟨⟨%f0, %hf0, H0⟩, ⟨%f1, %hf1, H1⟩, ⟨%f2, %hf2, H2⟩, ⟨%f3, %hf3, H3⟩, ⟨%d4, %f4, -, H4⟩, H5, ⟨%ds0, %fs0, -, HS0⟩, Hk⟩
    obtain rfl := harg1.eq_unread hf0; obtain rfl := harg2.eq_unread hf1; obtain rfl := harg3.eq_unread hf2; obtain rfl := harg4.eq_unread hf3
    have hrd0 : ∀ (𝒱 : Variants) (c : Dev nD) (bd : Option 𝒱.V) (i : grid0.Coords) (arg1 : Memref sig .tc .vmem S1024x1536 .bf16) (harg1 : arg1.IsWhole) (arg2 : Memref sig .tc .vmem S1x1536 .f32) (harg2 : arg2.IsWhole) (arg3 : Memref sig .tc .vmem S256x768 .i8) (harg3 : arg3.IsWhole) (arg4 : Memref sig .tc .vmem S48x256 .bf16) (harg4 : arg4.IsWhole) (arg5 : Memref sig .tc .vmem S1024x256 .fp8e4m3) (harg5 : arg5.IsWhole) (arg6 : Memref sig .tc .vmem S70x1x1024 .f32) (harg6 : arg6.IsWhole) (arg7 : Memref sig .tc .vmem S1024x1536 .bf16) (harg7 : arg7.IsWhole) (k0_h1 : k0_cond1 i = 1#1) (X_arg1 : BufTy.Contents (Elt F) arg1.view.ty) (X_arg2 : BufTy.Contents (Elt F) arg2.view.ty) (hrdF : BufTy.Contents (Elt F) arg7.view.ty) (hrdB : LoadRect S1024x1536), arg7.view.readAt (Elt F) hrdB (arg7.view.writes (Elt F) hrdF (pb_k0_t1 (F := F) 𝒱 c bd i arg1 harg1 arg2 harg2 arg3 harg3 arg4 harg4 arg5 harg5 arg6 harg6 arg7 harg7 k0_h1 X_arg1 X_arg2 (Scf.trips k0_t1_loop.lb k0_t1_loop.ub k0_t1_loop.st))) = arg7.view.readCov (pb_k0_t1 (F := F) 𝒱 c bd i arg1 harg1 arg2 harg2 arg3 harg3 arg4 harg4 arg5 harg5 arg6 harg6 arg7 harg7 k0_h1 X_arg1 X_arg2 (Scf.trips k0_t1_loop.lb k0_t1_loop.ub k0_t1_loop.st)) hrdB := fun 𝒱 c bd i arg1 harg1 arg2 harg2 arg3 harg3 arg4 harg4 arg5 harg5 arg6 harg6 arg7 harg7 k0_h1 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 k0_h1 X_arg1 X_arg2 (Scf.trips k0_t1_loop.lb k0_t1_loop.ub k0_t1_loop.st)) S64x128.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexact H5
    iexists _; iexact HS0

end Cert.KernelIdeal.Hand

end
-- ==== Proof.RunB.lean ====
/- The kernel body run once, at a later point, where it reads the scratch the first point left: the pieces it stores into each memref. -/
module

public import proofs.«01_k».proof.Proof.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6000000 in
/-- What the body's stores leave in each output's staging memref, as pieces (last first) IN CASE B (`scf.if` 0 not taken: points 1, 2, … 34: 34 of 35), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S256x768 .i8) (harg3 : arg3.IsWhole) (arg4 : Memref sig .tc .vmem S48x256 .bf16) (harg4 : arg4.IsWhole) (arg5 : Memref sig .tc .vmem S1024x256 .fp8e4m3) (harg5 : arg5.IsWhole) (arg6 : Memref sig .tc .vmem S70x1x1024 .f32) (harg6 : arg6.IsWhole) (arg7 : Memref sig .tc .vmem S1024x1536 .bf16) (harg7 : arg7.IsWhole) (hc0 : ¬cond0_0 i)
    (x0 : Vec F S1024x1536 .bf16) (x1 : Vec F S1x1536 .f32) (x2 : Vec F S256x768 .i8) (x3 : Vec F S48x256 .bf16) (xs0 : Vec F S1024x1536 .bf16) :
    Σ' (L4 : List (View.Piece (Elt F) S1024x256 .fp8e4m3)), Σ' (L5 : List (View.Piece (Elt F) S70x1x1024 .f32)), { LS0 : List (View.Piece (Elt F) S1024x1536 .bf16) //
      ∀ (E : Set ℕ) (f5 : BufTy.Contents (Elt F) arg6.view.ty) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (arg6.view.loc (c : Thread nD τ) ↦[arg6.view.set]{fullShare} f5) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (arg6.view.loc (c : Thread nD τ) ↦[arg6.view.set]{fullShare} arg6.view.writes (Elt F) f5 L5) ∗ owns (c : Thread nD τ) arg7 fullShare xs0) -∗ K ⟨⟩))
          ⊢ wp frame (wpE (defs₀ (F := F)) Variants.none c none) E (cc0_rmsnorm_q4_linear_fp8 i arg1 harg1 arg2 harg2 arg3 harg3 arg4 harg4 arg5 harg5 arg6 harg6 arg7 harg7) K } := by
  refine ⟨?_, ?_, [], fun E f5 K => ?run⟩
  case run =>
    simp only [cc0_rmsnorm_q4_linear_fp8_eq_skeleton]; unfold cc0_rmsnorm_q4_linear_fp8_skel
    simp only [k0_part208_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part209_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part210_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part211_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton]
    unfold owns
    iintro ⟨⟨%f0, %hf0, H0⟩, ⟨%f1, %hf1, H1⟩, ⟨%f2, %hf2, H2⟩, ⟨%f3, %hf3, H3⟩, ⟨%d4, %f4, -, H4⟩, H5, ⟨%fs0, %hfs0, HS0⟩, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexact H5
    iexists _; isplitr; · ipureintro; exact harg7.read_unread _
    iexact HS0

end Cert.KernelIdeal.Hand

end
-- ==== Proof.Vocab.lean ====
/- One name for each value the kernel body computes, in the operations of the printed text: the permuted normalised
   rows (`NORM`, `PERMLO`, `PERMHI`), the dequantised weights (`DQS`, `DQLO`, `DQHI`, `WROW`), the product (`HH`), and
   the quantiser of one 128 by 128 block (`TT`, `EXPB`, `SB`, `QC`, `ACC`, `QS`). -/
module

public import proofs.«01_k».proof.Proof.Gen.KernelIdeal.Skeleton

@[expose] public section

set_option maxRecDepth 16384

noncomputable section

namespace Cert.KernelIdeal.Hand

open Idealize.ShloMosaic Idealize.SL.Sem
open Cert.KernelIdeal.Gen

variable {F : FTy → Type} [FloatOps F] [Named F]

/-! ## Rounding division and remainder of a vector of words by a word, as printed -/

/-- Floor division of each word of `x` by `n`. -/
def FDIV {s : Shape} (x : IVec s 32) (n : BitVec 32) : IVec s 32 :=
  select
    (andi
      (cmpi .ne (subi (extui 32 (cmpi .sgt x (broadcast s 0#32)) natLt_1_32) (extui 32 (cmpi .slt x (broadcast s 0#32)) natLt_1_32))
        (broadcast s (Scalar.subi (Scalar.extui (Scalar.cmpi .sgt n 0#32)) (Scalar.extui (Scalar.cmpi .slt n 0#32)))))
      (cmpi .ne (remsi x (broadcast s n)) (broadcast s 0#32)))
    (subi (divsi x (broadcast s n)) (broadcast s 1#32))
    (divsi x (broadcast s n))

/-- Floor remainder of each word of `x` by `n`. -/
def FMOD {s : Shape} (hb : s.Broadcasts s) (x : IVec s 32) (n : BitVec 32) : IVec s 32 :=
  select
    (andi
      (xori (cmpi .slt (remsi x (broadcast s (Scalar.select (Scalar.cmpi .eq n 0#32) 1#32 n))) (broadcast s 0#32))
        (broadcastTo s (broadcast s (Scalar.cmpi .slt (Scalar.select (Scalar.cmpi .eq n 0#32) 1#32 n) 0#32)) hb))
      (cmpi .ne (remsi x (broadcast s (Scalar.select (Scalar.cmpi .eq n 0#32) 1#32 n))) (broadcast s 0#32)))
    (addi (remsi x (broadcast s (Scalar.select (Scalar.cmpi .eq n 0#32) 1#32 n))) (broadcast s (Scalar.select (Scalar.cmpi .eq n 0#32) 1#32 n)))
    (remsi x (broadcast s (Scalar.select (Scalar.cmpi .eq n 0#32) 1#32 n)))

/-! ## The quantiser of one block -/

/-- One step of the search for the exponent field of `t`: raise the field by `step` unless that passes `t`. -/
def BIS (t : FVec F S128x128 .f32) (step : BitVec 32) (bits : IVec S128x128 32) : IVec S128x128 32 :=
  select (cmpf .olt t (bitcastToFloat .f32 (addi bits (broadcast S128x128 step)))) bits (addi bits (broadcast S128x128 step))

/-- The exponent field of `t`, shifted into place: eight steps. -/
def EXPB (t : FVec F S128x128 .f32) : IVec S128x128 32 :=
  BIS t 8388608#32 (BIS t 16777216#32 (BIS t 33554432#32 (BIS t 67108864#32 (BIS t 134217728#32 (BIS t 268435456#32
    (BIS t 536870912#32 (BIS t 1073741824#32 (broadcast S128x128 0#32))))))))

/-- The largest magnitude of each row of a block, over the format's largest value. -/
def TT (hb : FVec F S128x128 .f32) : FVec F S128x128 .f32 :=
  mulf (broadcastTo S128x128 (shapeCast S128x1 (shapeCast S128x1
      (multiReduction .maximumf [1] S128 (absf hb) 0xFF800000#32 reduces_S128x128_S128 (.inl rfl) rfl)
      shapeCasts_S128_S128x1) shapeCasts_S128x1_S128x1) broadcasts_S128x1_S128x128)
    (broadcast S128x128 (Scalar.ofBits .f32 0x3B124925#32))

/-- The bits of each row's scale. -/
def SB (hb : FVec F S128x128 .f32) : IVec S128x128 32 :=
  select (cmpf .oeq (TT hb) (broadcast S128x128 (Scalar.ofBits .f32 0x00000000#32))) (broadcast S128x128 1065353216#32)
    (addi (EXPB (TT hb)) (broadcast S128x128 8388608#32))

/-- The codes of a block. -/
def QC (hb : FVec F S128x128 .f32) : FVec F S128x128 .fp8e4m3 :=
  truncf .fp8e4m3 (minimumf (broadcast S128x128 (Scalar.ofBits .f32 0x43E00000#32))
    (maximumf (broadcast S128x128 (Scalar.ofBits .f32 0xC3E00000#32))
      (mulf hb (bitcastToFloat .f32 (subi (broadcast S128x128 2130706432#32) (SB hb)))))) bitsLt_fp8e4m3_f32

/-- The lane number. -/
def LANE : IVec S8x128 32 := iota .tc S8x128 32 [1] iota_S8x128_d1_w32
/-- The sublane number. -/
def SUB : IVec S8x128 32 := iota .tc S8x128 32 [0] iota_S8x128_d0_w32

/-- Take rows `8 v` to `8 v + 7` of `sb` in the lanes whose number over eight is `v`. -/
def SEL (v : BitVec 32) (rows acc : IVec S8x128 32) : IVec S8x128 32 :=
  select (cmpi .eq (FDIV LANE 8#32) (broadcast S8x128 v)) rows acc

/-- Lane `l` of row `s` of the gathered bits: `sb` at `(8 (l / 8) + s, l)`. -/
def ACC (sb : IVec S128x128 32) : IVec S8x128 32 :=
  SEL 15#32 (extractStridedSlice S8x128 ![120, 0] sb slices_S128x128_o120_0_S8x128) <|
  SEL 14#32 (extractStridedSlice S8x128 ![112, 0] sb slices_S128x128_o112_0_S8x128) <|
  SEL 13#32 (extractStridedSlice S8x128 ![104, 0] sb slices_S128x128_o104_0_S8x128) <|
  SEL 12#32 (extractStridedSlice S8x128 ![96, 0] sb slices_S128x128_o96_0_S8x128) <|
  SEL 11#32 (extractStridedSlice S8x128 ![88, 0] sb slices_S128x128_o88_0_S8x128) <|
  SEL 10#32 (extractStridedSlice S8x128 ![80, 0] sb slices_S128x128_o80_0_S8x128) <|
  SEL 9#32 (extractStridedSlice S8x128 ![72, 0] sb slices_S128x128_o72_0_S8x128) <|
  SEL 8#32 (extractStridedSlice S8x128 ![64, 0] sb slices_S128x128_o64_0_S8x128) <|
  SEL 7#32 (extractStridedSlice S8x128 ![56, 0] sb slices_S128x128_o56_0_S8x128) <|
  SEL 6#32 (extractStridedSlice S8x128 ![48, 0] sb slices_S128x128_o48_0_S8x128) <|
  SEL 5#32 (extractStridedSlice S8x128 ![40, 0] sb slices_S128x128_o40_0_S8x128) <|
  SEL 4#32 (extractStridedSlice S8x128 ![32, 0] sb slices_S128x128_o32_0_S8x128) <|
  SEL 3#32 (extractStridedSlice S8x128 ![24, 0] sb slices_S128x128_o24_0_S8x128) <|
  SEL 2#32 (extractStridedSlice S8x128 ![16, 0] sb slices_S128x128_o16_0_S8x128) <|
  SEL 1#32 (extractStridedSlice S8x128 ![8, 0] sb slices_S128x128_o8_0_S8x128) <|
  extractStridedSlice S8x128 ![0, 0] sb slices_S128x128_o0_0_S8x128

/-- The scales of a block's rows, along the lanes. -/
def QS (hb : FVec F S128x128 .f32) : FVec F S1x1x128 .f32 :=
  shapeCast S1x1x128 (shapeCast S1x128
    (multiReduction .add [0] S128
      (select (cmpi .eq (FMOD broadcasts_S8x128_S8x128 LANE 8#32) SUB) (bitcastToFloat .f32 (ACC (SB hb)))
        (broadcast S8x128 (Scalar.ofBits .f32 0x00000000#32)))
      0x00000000#32 reduces_S8x128_S128 (.inl rfl) rfl)
    shapeCasts_S128_S1x128) shapeCasts_S1x128_S1x1x128

/-! ## The dequantised weights -/

/-- One row of scales, sixteen times. -/
def DQ16 (s : Vec F S1x128 .bf16) : FVec F S16x128 .bf16 :=
  broadcastTo S16x128 (shapeCast S1x128 (shapeCast S1x128 s shapeCasts_S1x128_S1x128) shapeCasts_S1x128_S1x128) broadcasts_S1x128_S16x128

/-- Eight rows of scales, each sixteen times, transposed: the scale of each weight of a block of 128 rows and 128 bytes. -/
def DQS (s0 s1 s2 s3 s4 s5 s6 s7 : Vec F S1x128 .bf16) : FVec F S128x128 .bf16 :=
  transpose S128x128 [1, 0]
    (concatenate S128x128 0 [⟨S16x128, DQ16 s0⟩, ⟨S16x128, DQ16 s1⟩, ⟨S16x128, DQ16 s2⟩, ⟨S16x128, DQ16 s3⟩, ⟨S16x128, DQ16 s4⟩, ⟨S16x128, DQ16 s5⟩, ⟨S16x128, DQ16 s6⟩, ⟨S16x128, DQ16 s7⟩]
      concatenates_S16x128_S16x128_S16x128_S16x128_S16x128_S16x128_S16x128_S16x128_S128x128_d0) transposes_S128x128_p1_0_S128x128

/-- The low fields of a block of bytes, less the zero point, times their scales. -/
def DQLO (w : Vec F S128x128 .i8) (s : FVec F S128x128 .bf16) : FVec F S128x128 .bf16 :=
  mulf (subf (uitofp .bf16 (andi w (broadcast S128x128 15#8))) (broadcast S128x128 (Scalar.ofBits .bf16 0x4100#16))) s

/-- The high fields of a block of bytes, less the zero point, times their scales. -/
def DQHI (w : Vec F S128x128 .i8) (s : FVec F S128x128 .bf16) : FVec F S128x128 .bf16 :=
  mulf (subf (uitofp .bf16 (trunci 8 (shrsi (extui 32 w natLt_8_32) (broadcast S128x128 4#32)) natLt_8_32))
    (broadcast S128x128 (Scalar.ofBits .bf16 0x4100#16))) s

/-- The dequantised weights of 128 output columns: six blocks of bytes, each giving its low then its high fields. -/
def WROW (w : Fin 6 → Vec F S128x128 .i8) (s : Fin 6 → FVec F S128x128 .bf16) : FVec F S128x1536 .bf16 :=
  concatenate S128x1536 1 [⟨S128x128, DQLO (w 0) (s 0)⟩, ⟨S128x128, DQHI (w 0) (s 0)⟩, ⟨S128x128, DQLO (w 1) (s 1)⟩, ⟨S128x128, DQHI (w 1) (s 1)⟩, ⟨S128x128, DQLO (w 2) (s 2)⟩, ⟨S128x128, DQHI (w 2) (s 2)⟩, ⟨S128x128, DQLO (w 3) (s 3)⟩, ⟨S128x128, DQHI (w 3) (s 3)⟩, ⟨S128x128, DQLO (w 4) (s 4)⟩, ⟨S128x128, DQHI (w 4) (s 4)⟩, ⟨S128x128, DQLO (w 5) (s 5)⟩, ⟨S128x128, DQHI (w 5) (s 5)⟩]
    concatenates_S128x128_S128x128_S128x128_S128x128_S128x128_S128x128_S128x128_S128x128_S128x128_S128x128_S128x128_S128x128_S128x1536_d1

/-- The product of the permuted rows with the dequantised weights of 256 output columns. -/
def HH (xn : Vec F S1024x1536 .bf16) (w0 w1 : FVec F S128x1536 .bf16) : FVec F S1024x256 .f32 :=
  matmul dot_S1024x1536_S256x1536_S1024x256_1_1_0_0_n_n none xn
    (concatenate S256x1536 0 [⟨S128x1536, w0⟩, ⟨S128x1536, w1⟩] concatenates_S128x1536_S128x1536_S256x1536_d0)
    (constant S1024x256 .f32 0x00000000#32)

/-! ## The normalised rows and their permutation -/

/-- The lane number. -/
def LANE64 : IVec S64x128 32 := iota .tc S64x128 32 [1] iota_S64x128_d1_w32

/-- Where a lane of the permuted block comes from. -/
def SRC : IVec S64x128 32 :=
  addi (muli (FMOD broadcasts_S64x128_S64x128 (FDIV LANE64 16#32) 4#32) (broadcast S64x128 32#32)) (FMOD broadcasts_S64x128_S64x128 LANE64 16#32)

/-- Each row's lanes at the places `idx`. -/
def GATH (v : FVec F S64x128 .f32) (idx : IVec S64x128 32) : FVec F S64x128 .f32 :=
  dynamicGather 1 v (shapeCast S64x128 (shapeCast S64x128x1
    (select (cmpi .slt idx (broadcast S64x128 0#32)) (addi idx (broadcast S64x128 128#32)) idx)
    shapeCasts_S64x128_S64x128x1) shapeCasts_S64x128x1_S64x128)

/-- The low halves of the groups of a block of 256 columns. -/
def PERMLO (u : FVec F S64x256 .f32) : FVec F S64x128 .bf16 :=
  shapeCast S64x128 (truncf .bf16 (select (cmpi .slt LANE64 (broadcast S64x128 64#32))
    (GATH (extractStridedSlice S64x128 ![0, 0] u slices_S64x256_o0_0_S64x128) SRC)
    (GATH (extractStridedSlice S64x128 ![0, 128] u slices_S64x256_o0_128_S64x128) SRC)) bitsLt_bf16_f32) shapeCasts_S64x128_S64x128

/-- The high halves of the groups of a block of 256 columns. -/
def PERMHI (u : FVec F S64x256 .f32) : FVec F S64x128 .bf16 :=
  shapeCast S64x128 (truncf .bf16 (select (cmpi .slt LANE64 (broadcast S64x128 64#32))
    (GATH (extractStridedSlice S64x128 ![0, 0] u slices_S64x256_o0_0_S64x128) (addi SRC (broadcast S64x128 16#32)))
    (GATH (extractStridedSlice S64x128 ![0, 128] u slices_S64x256_o0_128_S64x128) (addi SRC (broadcast S64x128 16#32)))) bitsLt_bf16_f32) shapeCasts_S64x128_S64x128

/-- Sixty-four rows, normalised and scaled by the gain. -/
def NORM (x : Vec F S64x1536 .bf16) (g : Vec F S1x1536 .f32) : FVec F S64x1536 .bf16 := k0_pay2 x g

end Cert.KernelIdeal.Hand

end
-- ==== Proof.Tile.lean ====
/- A tile of the product, and the pieces a run stores into the codes tile and the scales array. -/
module

public import proofs.«01_k».proof.Proof.Runs
public import proofs.«01_k».proof.Proof.Vocab

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What a run stores, in the vocabulary of Vocab.lean -/

theorem hblk_slices (r : Fin 8) (o : Fin 2) : S1024x256.Slices ![128 * r.val, 128 * o.val] S128x128 := by
  revert r o; decide

/-- Block `(r, o)` of the product. -/
def HBLK (H : FVec F S1024x256 .f32) (r : Fin 8) (o : Fin 2) : FVec F S128x128 .f32 :=
  extractStridedSlice S128x128 ![128 * r.val, 128 * o.val] H (hblk_slices r o)

theorem p4_inb (r : Fin 8) (o : Fin 2) : ∀ a, (![128 * r.val, 128 * o.val] : Fin 2 → ℕ) a + S128x128.size a ≤ S1024x256.size a := by
  revert r o; decide

/-- The codes of block `(r, o)`, at their place in the tile. -/
def P4 (H : FVec F S1024x256 .f32) (r : Fin 8) (o : Fin 2) : View.Piece (Elt F) S1024x256 .fp8e4m3 :=
  ⟨Rect.unit (s := S1024x256) ![128 * r.val, 128 * o.val] S128x128.size (p4_inb r o), QC (HBLK H r o)⟩

/-- The codes of a tile, last stored first. -/
def PIECES4 (H : FVec F S1024x256 .f32) : List (View.Piece (Elt F) S1024x256 .fp8e4m3) :=
  [P4 H 7 1,
    P4 H 6 1,
    P4 H 5 1,
    P4 H 4 1,
    P4 H 3 1,
    P4 H 2 1,
    P4 H 1 1,
    P4 H 0 1,
    P4 H 7 0,
    P4 H 6 0,
    P4 H 5 0,
    P4 H 4 0,
    P4 H 3 0,
    P4 H 2 0,
    P4 H 1 0,
    P4 H 0 0]

/-- The scales of a tile, last stored first. -/
def PIECES5 (i : grid0.Coords) (H : FVec F S1024x256 .f32) : List (View.Piece (Elt F) S70x1x1024 .f32) :=
  [⟨Rect.unit (s := S70x1x1024) (k0_off21 i 1#32) S1x1x128.size (k0_off21_inb i 1), QS (HBLK H 7 1)⟩,
    ⟨Rect.unit (s := S70x1x1024) (k0_off20 i 1#32) S1x1x128.size (k0_off20_inb i 1), QS (HBLK H 6 1)⟩,
    ⟨Rect.unit (s := S70x1x1024) (k0_off19 i 1#32) S1x1x128.size (k0_off19_inb i 1), QS (HBLK H 5 1)⟩,
    ⟨Rect.unit (s := S70x1x1024) (k0_off18 i 1#32) S1x1x128.size (k0_off18_inb i 1), QS (HBLK H 4 1)⟩,
    ⟨Rect.unit (s := S70x1x1024) (k0_off17 i 1#32) S1x1x128.size (k0_off17_inb i 1), QS (HBLK H 3 1)⟩,
    ⟨Rect.unit (s := S70x1x1024) (k0_off16 i 1#32) S1x1x128.size (k0_off16_inb i 1), QS (HBLK H 2 1)⟩,
    ⟨Rect.unit (s := S70x1x1024) (k0_off15 i 1#32) S1x1x128.size (k0_off15_inb i 1), QS (HBLK H 1 1)⟩,
    ⟨Rect.unit (s := S70x1x1024) (k0_off14 i 1#32) S1x1x128.size (k0_off14_inb i 1), QS (HBLK H 0 1)⟩,
    ⟨Rect.unit (s := S70x1x1024) (k0_off21 i 0#32) S1x1x128.size (k0_off21_inb i 0), QS (HBLK H 7 0)⟩,
    ⟨Rect.unit (s := S70x1x1024) (k0_off20 i 0#32) S1x1x128.size (k0_off20_inb i 0), QS (HBLK H 6 0)⟩,
    ⟨Rect.unit (s := S70x1x1024) (k0_off19 i 0#32) S1x1x128.size (k0_off19_inb i 0), QS (HBLK H 5 0)⟩,
    ⟨Rect.unit (s := S70x1x1024) (k0_off18 i 0#32) S1x1x128.size (k0_off18_inb i 0), QS (HBLK H 4 0)⟩,
    ⟨Rect.unit (s := S70x1x1024) (k0_off17 i 0#32) S1x1x128.size (k0_off17_inb i 0), QS (HBLK H 3 0)⟩,
    ⟨Rect.unit (s := S70x1x1024) (k0_off16 i 0#32) S1x1x128.size (k0_off16_inb i 0), QS (HBLK H 2 0)⟩,
    ⟨Rect.unit (s := S70x1x1024) (k0_off15 i 0#32) S1x1x128.size (k0_off15_inb i 0), QS (HBLK H 1 0)⟩,
    ⟨Rect.unit (s := S70x1x1024) (k0_off14 i 0#32) S1x1x128.size (k0_off14_inb i 0), QS (HBLK H 0 0)⟩]

theorem wblk_inb (o : Fin 2) (b : Fin 6) : ∀ a, (![128 * o.val, 128 * b.val] : Fin 2 → ℕ) a + S128x128.size a ≤ S256x768.size a := by
  revert o b; decide

/-- Block `(o, b)` of the packed bytes of a tile. -/
def WBLK (x2 : Vec F S256x768 .i8) (o : Fin 2) (b : Fin 6) : Vec F S128x128 .i8 :=
  View.ld x2 (Rect.unit (s := S256x768) ![128 * o.val, 128 * b.val] S128x128.size (wblk_inb o b))

theorem srow_inb (o : Fin 2) (g : Fin 48) : ∀ a, (![g.val, 128 * o.val] : Fin 2 → ℕ) a + S1x128.size a ≤ S48x256.size a := by
  revert o g; decide

/-- The scales of group `g`, along the 128 output columns of half `o` of a tile. -/
def SROW (x3 : Vec F S48x256 .bf16) (o : Fin 2) (g : Fin 48) : Vec F S1x128 .bf16 :=
  View.ld x3 (Rect.unit (s := S48x256) ![g.val, 128 * o.val] S1x128.size (srow_inb o g))

/-- The scales of block `(o, b)` of the packed bytes. -/
def SBLK (x3 : Vec F S48x256 .bf16) (o : Fin 2) (b : Fin 6) : FVec F S128x128 .bf16 :=
  DQS (SROW x3 o ⟨8 * b.val + 0, by omega⟩) (SROW x3 o ⟨8 * b.val + 1, by omega⟩) (SROW x3 o ⟨8 * b.val + 2, by omega⟩) (SROW x3 o ⟨8 * b.val + 3, by omega⟩)
    (SROW x3 o ⟨8 * b.val + 4, by omega⟩) (SROW x3 o ⟨8 * b.val + 5, by omega⟩) (SROW x3 o ⟨8 * b.val + 6, by omega⟩) (SROW x3 o ⟨8 * b.val + 7, by omega⟩)

/-- The dequantised weights of half `o` of a tile. -/
def WTILE (x2 : Vec F S256x768 .i8) (x3 : Vec F S48x256 .bf16) (o : Fin 2) : FVec F S128x1536 .bf16 :=
  WROW (WBLK x2 o) (SBLK x3 o)

/-- The product of a tile. -/
def HT (xn : Vec F S1024x1536 .bf16) (x2 : Vec F S256x768 .i8) (x3 : Vec F S48x256 .bf16) : FVec F S1024x256 .f32 :=
  HH xn (WTILE x2 x3 0) (WTILE x2 x3 1)

end Cert.KernelIdeal.Hand

end
-- ==== Proof.Pieces.lean ====
/- What each run stores into the codes tile and the scales array, in the vocabulary of Vocab.lean. -/
module

public import proofs.«01_k».proof.Proof.RunB
public import proofs.«01_k».proof.Proof.Tile

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
theorem pieces4_A (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S256x768 .i8) (harg3 : arg3.IsWhole) (arg4 : Memref sig .tc .vmem S48x256 .bf16) (harg4 : arg4.IsWhole) (arg5 : Memref sig .tc .vmem S1024x256 .fp8e4m3) (harg5 : arg5.IsWhole) (arg6 : Memref sig .tc .vmem S70x1x1024 .f32) (harg6 : arg6.IsWhole) (arg7 : Memref sig .tc .vmem S1024x1536 .bf16) (harg7 : arg7.IsWhole) (hc0 : cond0_0 i)
    (x0 : Vec F S1024x1536 .bf16) (x1 : Vec F S1x1536 .f32) (x2 : Vec F S256x768 .i8) (x3 : Vec F S48x256 .bf16) :
    (kernelRun0_A c i arg1 harg1 arg2 harg2 arg3 harg3 arg4 harg4 arg5 harg5 arg6 harg6 arg7 harg7 hc0 x0 x1 x2 x3).1 = PIECES4 (HT (arg7.view.readCov (pb_k0_t1 (F := F) Variants.none c none i arg1 harg1 arg2 harg2 arg3 harg3 arg4 harg4 arg5 harg5 arg6 harg6 arg7 harg7 hc0 (harg1.unread x0) (harg2.unread x1) (Scf.trips k0_t1_loop.lb k0_t1_loop.ub k0_t1_loop.st)) (Rect.unit (s := S1024x1536) ![0, 0] S1024x1536.size inb_S1024x1536_S1024x1536_0_0).toLoadRect) (arg3.view.read (Elt F) (harg3.unread x2)) (arg4.view.read (Elt F) (harg4.unread x3))) := by
  unfold kernelRun0_A; dsimp only; rfl

set_option maxHeartbeats 4000000 in
theorem pieces5_A (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S256x768 .i8) (harg3 : arg3.IsWhole) (arg4 : Memref sig .tc .vmem S48x256 .bf16) (harg4 : arg4.IsWhole) (arg5 : Memref sig .tc .vmem S1024x256 .fp8e4m3) (harg5 : arg5.IsWhole) (arg6 : Memref sig .tc .vmem S70x1x1024 .f32) (harg6 : arg6.IsWhole) (arg7 : Memref sig .tc .vmem S1024x1536 .bf16) (harg7 : arg7.IsWhole) (hc0 : cond0_0 i)
    (x0 : Vec F S1024x1536 .bf16) (x1 : Vec F S1x1536 .f32) (x2 : Vec F S256x768 .i8) (x3 : Vec F S48x256 .bf16) :
    (kernelRun0_A c i arg1 harg1 arg2 harg2 arg3 harg3 arg4 harg4 arg5 harg5 arg6 harg6 arg7 harg7 hc0 x0 x1 x2 x3).2.1 = PIECES5 i (HT (arg7.view.readCov (pb_k0_t1 (F := F) Variants.none c none i arg1 harg1 arg2 harg2 arg3 harg3 arg4 harg4 arg5 harg5 arg6 harg6 arg7 harg7 hc0 (harg1.unread x0) (harg2.unread x1) (Scf.trips k0_t1_loop.lb k0_t1_loop.ub k0_t1_loop.st)) (Rect.unit (s := S1024x1536) ![0, 0] S1024x1536.size inb_S1024x1536_S1024x1536_0_0).toLoadRect) (arg3.view.read (Elt F) (harg3.unread x2)) (arg4.view.read (Elt F) (harg4.unread x3))) := by
  unfold kernelRun0_A; dsimp only; rfl

set_option maxHeartbeats 4000000 in
theorem pieces4_B (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S256x768 .i8) (harg3 : arg3.IsWhole) (arg4 : Memref sig .tc .vmem S48x256 .bf16) (harg4 : arg4.IsWhole) (arg5 : Memref sig .tc .vmem S1024x256 .fp8e4m3) (harg5 : arg5.IsWhole) (arg6 : Memref sig .tc .vmem S70x1x1024 .f32) (harg6 : arg6.IsWhole) (arg7 : Memref sig .tc .vmem S1024x1536 .bf16) (harg7 : arg7.IsWhole) (hc0 : ¬cond0_0 i)
    (x0 : Vec F S1024x1536 .bf16) (x1 : Vec F S1x1536 .f32) (x2 : Vec F S256x768 .i8) (x3 : Vec F S48x256 .bf16) (xs0 : Vec F S1024x1536 .bf16) :
    (kernelRun0_B c i arg1 harg1 arg2 harg2 arg3 harg3 arg4 harg4 arg5 harg5 arg6 harg6 arg7 harg7 hc0 x0 x1 x2 x3 xs0).1 = PIECES4 (HT (arg7.view.readAt (Elt F) (Rect.unit (s := S1024x1536) ![0, 0] S1024x1536.size inb_S1024x1536_S1024x1536_0_0).toLoadRect (harg7.unread xs0)) (arg3.view.read (Elt F) (harg3.unread x2)) (arg4.view.read (Elt F) (harg4.unread x3))) := by
  unfold kernelRun0_B; dsimp only; rfl

set_option maxHeartbeats 4000000 in
theorem pieces5_B (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S256x768 .i8) (harg3 : arg3.IsWhole) (arg4 : Memref sig .tc .vmem S48x256 .bf16) (harg4 : arg4.IsWhole) (arg5 : Memref sig .tc .vmem S1024x256 .fp8e4m3) (harg5 : arg5.IsWhole) (arg6 : Memref sig .tc .vmem S70x1x1024 .f32) (harg6 : arg6.IsWhole) (arg7 : Memref sig .tc .vmem S1024x1536 .bf16) (harg7 : arg7.IsWhole) (hc0 : ¬cond0_0 i)
    (x0 : Vec F S1024x1536 .bf16) (x1 : Vec F S1x1536 .f32) (x2 : Vec F S256x768 .i8) (x3 : Vec F S48x256 .bf16) (xs0 : Vec F S1024x1536 .bf16) :
    (kernelRun0_B c i arg1 harg1 arg2 harg2 arg3 harg3 arg4 harg4 arg5 harg5 arg6 harg6 arg7 harg7 hc0 x0 x1 x2 x3 xs0).2.1 = PIECES5 i (HT (arg7.view.readAt (Elt F) (Rect.unit (s := S1024x1536) ![0, 0] S1024x1536.size inb_S1024x1536_S1024x1536_0_0).toLoadRect (harg7.unread xs0)) (arg3.view.read (Elt F) (harg3.unread x2)) (arg4.view.read (Elt F) (harg4.unread x3))) := by
  unfold kernelRun0_B; dsimp only; rfl

end Cert.KernelIdeal.Hand

end
-- ==== Proof.Loop.lean ====
/- What the loop over the rows leaves in the scratch. -/
module

public import proofs.«01_k».proof.Proof.Gen.KernelIdeal.Loops
public import proofs.«01_k».proof.Proof.Tile

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## One trip of the loop over the rows, and the rows it leaves -/

theorem u256_slices (b : Fin 6) : S64x1536.Slices ![0, 256 * b.val] S64x256 := by revert b; decide

/-- Columns `256 b` to `256 b + 255` of sixty-four normalised rows. -/
def U256 (N : FVec F S64x1536 .bf16) (b : Fin 6) : FVec F S64x256 .f32 :=
  extf .f32 (extractStridedSlice S64x256 ![0, 256 * b.val] N (u256_slices b)) bitsLt_bf16_f32

/-- What trip `k` stores, last first. -/
def TPIECES (i : grid0.Coords) (k0_h1 : k0_cond1 i = 1#1) (k : Fin k0_t1_loop.trips) (N : FVec F S64x1536 .bf16) : List (View.Piece (Elt F) S1024x1536 .bf16) :=
  [⟨Rect.unit (s := S1024x1536) (k0_off13 k) S64x128.size (k0_off13_inb i k k0_h1), PERMHI (U256 N 5)⟩,
    ⟨Rect.unit (s := S1024x1536) (k0_off12 k) S64x128.size (k0_off12_inb i k k0_h1), PERMLO (U256 N 5)⟩,
    ⟨Rect.unit (s := S1024x1536) (k0_off11 k) S64x128.size (k0_off11_inb i k k0_h1), PERMHI (U256 N 4)⟩,
    ⟨Rect.unit (s := S1024x1536) (k0_off10 k) S64x128.size (k0_off10_inb i k k0_h1), PERMLO (U256 N 4)⟩,
    ⟨Rect.unit (s := S1024x1536) (k0_off9 k) S64x128.size (k0_off9_inb i k k0_h1), PERMHI (U256 N 3)⟩,
    ⟨Rect.unit (s := S1024x1536) (k0_off8 k) S64x128.size (k0_off8_inb i k k0_h1), PERMLO (U256 N 3)⟩,
    ⟨Rect.unit (s := S1024x1536) (k0_off7 k) S64x128.size (k0_off7_inb i k k0_h1), PERMHI (U256 N 2)⟩,
    ⟨Rect.unit (s := S1024x1536) (k0_off6 k) S64x128.size (k0_off6_inb i k k0_h1), PERMLO (U256 N 2)⟩,
    ⟨Rect.unit (s := S1024x1536) (k0_off5 k) S64x128.size (k0_off5_inb i k k0_h1), PERMHI (U256 N 1)⟩,
    ⟨Rect.unit (s := S1024x1536) (k0_off4 k) S64x128.size (k0_off4_inb i k k0_h1), PERMLO (U256 N 1)⟩,
    ⟨Rect.unit (s := S1024x1536) (k0_off3 k) S64x128.size (k0_off3_inb i k k0_h1), PERMHI (U256 N 0)⟩,
    ⟨Rect.unit (s := S1024x1536) (k0_off2 k) S64x128.size (k0_off2_inb i k k0_h1), PERMLO (U256 N 0)⟩]

set_option maxHeartbeats 4000000 in
theorem trip_pieces (𝒱 : Variants) (c : Dev nD) (bd : Option 𝒱.V) (i : grid0.Coords) (arg1 : Memref sig .tc .vmem S1024x1536 .bf16) (harg1 : arg1.IsWhole) (arg2 : Memref sig .tc .vmem S1x1536 .f32) (harg2 : arg2.IsWhole) (arg3 : Memref sig .tc .vmem S256x768 .i8) (harg3 : arg3.IsWhole) (arg4 : Memref sig .tc .vmem S48x256 .bf16) (harg4 : arg4.IsWhole) (arg5 : Memref sig .tc .vmem S1024x256 .fp8e4m3) (harg5 : arg5.IsWhole) (arg6 : Memref sig .tc .vmem S70x1x1024 .f32) (harg6 : arg6.IsWhole) (arg7 : Memref sig .tc .vmem S1024x1536 .bf16) (harg7 : arg7.IsWhole) (k0_h1 : k0_cond1 i = 1#1) (X_arg1 : BufTy.Contents (Elt F) arg1.view.ty) (X_arg2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 k0_h1 X_arg1 X_arg2 k = TPIECES i k0_h1 k (NORM
      (arg1.view.readAt (Elt F) (Rect.unit (s := S1024x1536) (k0_off1 k) S64x1536.size (k0_off1_inb i k k0_h1)).toLoadRect X_arg1)
      (arg2.view.readAt (Elt F) (Rect.unit (s := S1x1536) ![0, 0] S1x1536.size inb_S1x1536_S1x1536_0_0).toLoadRect X_arg2)) := by
  unfold tripL_k0_t1 trip_k0_t1; dsimp only; rfl

end Cert.KernelIdeal.Hand

end
-- ==== Proof.Fills.lean ====
/- What the scratch, the codes tile and the scales array hold after the stores of Loop.lean and Tile.lean, index by index. -/
module

public import Idealize.ShloMosaic.Lib.ValueIdxCore
public import Idealize.ShloMosaic.Lib.Pipeline.Value
public import proofs.«01_k».proof.Proof.Loop

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Pieces at places in closed form -/

theorem piece_congr {s : Shape} {e : EltTy} {off off' size : Fin s.rank → ℕ} (h : off = off')
    (inb : ∀ a, off a + size a ≤ s.size a) (inb' : ∀ a, off' a + size a ≤ s.size a) (w : (Rect.unit off size inb).shape.Idx → Elt F e) :
    (⟨Rect.unit off size inb, w⟩ : View.Piece (Elt F) s e) = ⟨Rect.unit off' size inb', w⟩ := by
  subst h; rfl

theorem ld_congr {s : Shape} {e : EltTy} {off off' size : Fin s.rank → ℕ} (h : off = off')
    (inb : ∀ a, off a + size a ≤ s.size a) (inb' : ∀ a, off' a + size a ≤ s.size a) (X : Vec F s e) :
    (View.ld X (Rect.unit off size inb) : Vec F ⟨s.rank, size⟩ e) = View.ld X (Rect.unit off' size inb') := by
  subst h; rfl

theorem trips_eq : k0_t1_loop.trips = 16 := by decide +kernel

theorem mem_set_emb {s : Shape} (r : Rect s) (x : r.shape.Idx) (y : s.Idx) (h : ∀ a, (y a).val = r.off a + r.stride a * (x a).val) : y ∈ r.set :=
  r.mem_set.mpr fun a => ⟨(x a).val, (x a).isLt, h a⟩

/-! ## The permuted rows -/

/-- Columns `128 j` to `128 j + 127` of sixty-four permuted rows. -/
def PJ (N : FVec F S64x1536 .bf16) (j : Fin 12) : FVec F S64x128 .bf16 :=
  if j.val % 2 = 0 then PERMLO (U256 N ⟨j.val / 2, by omega⟩) else PERMHI (U256 N ⟨j.val / 2, by omega⟩)

theorem tp_inb (k : Fin k0_t1_loop.trips) (j : Fin 12) : ∀ a, (![64 * k.val, 128 * j.val] : Fin 2 → ℕ) a + S64x128.size a ≤ S1024x1536.size a := by
  have hk : k.val < 16 := lt_of_lt_of_eq k.isLt trips_eq
  intro a; fin_cases a
  · show 64 * k.val + 64 ≤ 1024; omega
  · show 128 * j.val + 128 ≤ 1536; omega

/-- Piece `j` of trip `k`. -/
def TP (N : FVec F S64x1536 .bf16) (k : Fin k0_t1_loop.trips) (j : Fin 12) : View.Piece (Elt F) S1024x1536 .bf16 :=
  ⟨Rect.unit (s := S1024x1536) ![64 * k.val, 128 * j.val] S64x128.size (tp_inb k j), PJ N j⟩

theorem tpieces_eq (i : grid0.Coords) (k0_h1 : k0_cond1 i = 1#1) (k : Fin k0_t1_loop.trips) (N : FVec F S64x1536 .bf16) :
    TPIECES i k0_h1 k N = [TP N k 11, TP N k 10, TP N k 9, TP N k 8, TP N k 7, TP N k 6, TP N k 5, TP N k 4, TP N k 3, TP N k 2, TP N k 1, TP N k 0] :=
  (congrArg₂ List.cons (piece_congr (F := F) (s := S1024x1536) (e := .bf16) (size := S64x128.size) (k0_off13_eq k) _ _ _) (congrArg₂ List.cons (piece_congr (F := F) (s := S1024x1536) (e := .bf16) (size := S64x128.size) (k0_off12_eq k) _ _ _) (congrArg₂ List.cons (piece_congr (F := F) (s := S1024x1536) (e := .bf16) (size := S64x128.size) (k0_off11_eq k) _ _ _) (congrArg₂ List.cons (piece_congr (F := F) (s := S1024x1536) (e := .bf16) (size := S64x128.size) (k0_off10_eq k) _ _ _) (congrArg₂ List.cons (piece_congr (F := F) (s := S1024x1536) (e := .bf16) (size := S64x128.size) (k0_off9_eq k) _ _ _) (congrArg₂ List.cons (piece_congr (F := F) (s := S1024x1536) (e := .bf16) (size := S64x128.size) (k0_off8_eq k) _ _ _) (congrArg₂ List.cons (piece_congr (F := F) (s := S1024x1536) (e := .bf16) (size := S64x128.size) (k0_off7_eq k) _ _ _) (congrArg₂ List.cons (piece_congr (F := F) (s := S1024x1536) (e := .bf16) (size := S64x128.size) (k0_off6_eq k) _ _ _) (congrArg₂ List.cons (piece_congr (F := F) (s := S1024x1536) (e := .bf16) (size := S64x128.size) (k0_off5_eq k) _ _ _) (congrArg₂ List.cons (piece_congr (F := F) (s := S1024x1536) (e := .bf16) (size := S64x128.size) (k0_off4_eq k) _ _ _) (congrArg₂ List.cons (piece_congr (F := F) (s := S1024x1536) (e := .bf16) (size := S64x128.size) (k0_off3_eq k) _ _ _) (congrArg₂ List.cons (piece_congr (F := F) (s := S1024x1536) (e := .bf16) (size := S64x128.size) (k0_off2_eq k) _ _ _) rfl))))))))))))

theorem nk_inb (k : Fin 16) : ∀ a, (![64 * k.val, 0] : Fin 2 → ℕ) a + S64x1536.size a ≤ S1024x1536.size a := by
  revert k; decide

/-- Rows `64 k` to `64 k + 63`, normalised. -/
def NK (x0 : Vec F S1024x1536 .bf16) (x1 : Vec F S1x1536 .f32) (k : Fin 16) : FVec F S64x1536 .bf16 :=
  NORM (View.ld x0 (Rect.unit (s := S1024x1536) ![64 * k.val, 0] S64x1536.size (nk_inb k))) x1

/-- The normalised rows, each block of 256 columns permuted. -/
def XN (x0 : Vec F S1024x1536 .bf16) (x1 : Vec F S1x1536 .f32) : Vec F S1024x1536 .bf16 := fun y =>
  PJ (NK x0 x1 ⟨(y 0).val / 64, by have := idx2_lt0 y; omega⟩) ⟨(y 1).val / 128, by have := idx2_lt1 y; omega⟩
    (ix2 ⟨(y 0).val % 64, by omega⟩ ⟨(y 1).val % 128, by omega⟩)

theorem XN_piece (x0 : Vec F S1024x1536 .bf16) (x1 : Vec F S1x1536 .f32) (k : Fin k0_t1_loop.trips) (j : Fin 12) (x : S64x128.Idx)
    (k' : Fin 16) (hk : k'.val = k.val) :
    PJ (NK x0 x1 k') j x = XN x0 x1 ((Rect.unit (s := S1024x1536) ![64 * k.val, 128 * j.val] S64x128.size (tp_inb k j)).emb x) := by
  have kl : k.val < 16 := lt_of_lt_of_eq k.isLt trips_eq
  have x0lt := idx2_lt0 x; have x1lt := idx2_lt1 x
  have ha : (⟨(64 * k.val + 1 * (x 0).val) / 64, by omega⟩ : Fin 16) = k' := Fin.ext (by show _ / 64 = k'.val; omega)
  have hb : (⟨(128 * j.val + 1 * (x 1).val) / 128, by omega⟩ : Fin 12) = j := Fin.ext (by show _ / 128 = j.val; omega)
  have hx : (ix2 ⟨(64 * k.val + 1 * (x 0).val) % 64, by omega⟩ ⟨(128 * j.val + 1 * (x 1).val) % 128, by omega⟩ : S64x128.Idx) = x := by
    refine Eq.trans ?_ (eq_ix2 x).symm
    congr 1
    · apply Fin.ext; show (64 * k.val + 1 * (x 0).val) % 64 = (x 0).val; omega
    · apply Fin.ext; show (128 * j.val + 1 * (x 1).val) % 128 = (x 1).val; omega
  show PJ (NK x0 x1 k') j x = PJ (NK x0 x1 ⟨(64 * k.val + 1 * (x 0).val) / 64, _⟩) ⟨(128 * j.val + 1 * (x 1).val) / 128, _⟩
    (ix2 ⟨(64 * k.val + 1 * (x 0).val) % 64, _⟩ ⟨(128 * j.val + 1 * (x 1).val) % 128, _⟩)
  rw [ha, hb, hx]

/-- The pieces of the trips before `n`, last first. -/
theorem pb_mem (𝒱 : Variants) (c : Dev nD) (bd : Option 𝒱.V) (i : grid0.Coords) (arg1 : Memref sig .tc .vmem S1024x1536 .bf16) (harg1 : arg1.IsWhole) (arg2 : Memref sig .tc .vmem S1x1536 .f32) (harg2 : arg2.IsWhole) (arg3 : Memref sig .tc .vmem S256x768 .i8) (harg3 : arg3.IsWhole) (arg4 : Memref sig .tc .vmem S48x256 .bf16) (harg4 : arg4.IsWhole) (arg5 : Memref sig .tc .vmem S1024x256 .fp8e4m3) (harg5 : arg5.IsWhole) (arg6 : Memref sig .tc .vmem S70x1x1024 .f32) (harg6 : arg6.IsWhole) (arg7 : Memref sig .tc .vmem S1024x1536 .bf16) (harg7 : arg7.IsWhole) (k0_h1 : k0_cond1 i = 1#1) (x0 : Vec F S1024x1536 .bf16) (x1 : Vec F S1x1536 .f32) :
    ∀ n : ℕ, n ≤ 16 → ∀ p, p ∈ pb_k0_t1 (F := F) 𝒱 c bd i arg1 harg1 arg2 harg2 arg3 harg3 arg4 harg4 arg5 harg5 arg6 harg6 arg7 harg7 k0_h1 (harg1.unread x0) (harg2.unread x1) n
      ↔ ∃ (k : Fin k0_t1_loop.trips) (k' : Fin 16) (j : Fin 12), k.val < n ∧ k'.val = k.val ∧ p = TP (NK x0 x1 k') k j
  | 0, _, p => by
    constructor
    · intro h; exact absurd h List.not_mem_nil
    · rintro ⟨k, k', j, h, -⟩; exact absurd h (Nat.not_lt_zero _)
  | n + 1, hn, p => by
    have hk : n < k0_t1_loop.trips := by rw [trips_eq]; omega
    have hs := pb_k0_t1_succ (F := F) 𝒱 c bd i arg1 harg1 arg2 harg2 arg3 harg3 arg4 harg4 arg5 harg5 arg6 harg6 arg7 harg7 k0_h1 (harg1.unread x0) (harg2.unread x1) ⟨n, hk⟩
    have hN : NORM
      (arg1.view.readAt (Elt F) (Rect.unit (s := S1024x1536) (k0_off1 ⟨n, hk⟩) S64x1536.size (k0_off1_inb i ⟨n, hk⟩ k0_h1)).toLoadRect (harg1.unread x0))
      (arg2.view.readAt (Elt F) (Rect.unit (s := S1x1536) ![0, 0] S1x1536.size inb_S1x1536_S1x1536_0_0).toLoadRect (harg2.unread x1)) = NK x0 x1 ⟨n, by omega⟩ := by
      unfold NK
      congr 1
      · rw [View.readAt_eq_ld, harg1.read_unread]
        exact ld_congr (k0_off1_eq ⟨n, hk⟩) _ _ x0
      · rw [View.readAt_eq_ld, harg2.read_unread]
        exact View.ld_unit_zero (by funext a; fin_cases a <;> rfl) _ x1
    rw [show n + 1 = (⟨n, hk⟩ : Fin k0_t1_loop.trips).val + 1 from rfl, hs, List.mem_append,
      pb_mem 𝒱 c bd i arg1 harg1 arg2 harg2 arg3 harg3 arg4 harg4 arg5 harg5 arg6 harg6 arg7 harg7 k0_h1 x0 x1 n (by omega) p, trip_pieces, hN, tpieces_eq]
    constructor
    · rintro (h | ⟨k, k', j, h, h', rfl⟩)
      · simp only [List.mem_cons, List.not_mem_nil, _root_.or_false] at h
        rcases h with rfl | rfl | rfl | rfl | rfl | rfl | rfl | rfl | rfl | rfl | rfl | rfl
        · exact ⟨⟨n, hk⟩, ⟨n, by omega⟩, 11, Nat.lt_succ_self n, rfl, rfl⟩
        · exact ⟨⟨n, hk⟩, ⟨n, by omega⟩, 10, Nat.lt_succ_self n, rfl, rfl⟩
        · exact ⟨⟨n, hk⟩, ⟨n, by omega⟩, 9, Nat.lt_succ_self n, rfl, rfl⟩
        · exact ⟨⟨n, hk⟩, ⟨n, by omega⟩, 8, Nat.lt_succ_self n, rfl, rfl⟩
        · exact ⟨⟨n, hk⟩, ⟨n, by omega⟩, 7, Nat.lt_succ_self n, rfl, rfl⟩
        · exact ⟨⟨n, hk⟩, ⟨n, by omega⟩, 6, Nat.lt_succ_self n, rfl, rfl⟩
        · exact ⟨⟨n, hk⟩, ⟨n, by omega⟩, 5, Nat.lt_succ_self n, rfl, rfl⟩
        · exact ⟨⟨n, hk⟩, ⟨n, by omega⟩, 4, Nat.lt_succ_self n, rfl, rfl⟩
        · exact ⟨⟨n, hk⟩, ⟨n, by omega⟩, 3, Nat.lt_succ_self n, rfl, rfl⟩
        · exact ⟨⟨n, hk⟩, ⟨n, by omega⟩, 2, Nat.lt_succ_self n, rfl, rfl⟩
        · exact ⟨⟨n, hk⟩, ⟨n, by omega⟩, 1, Nat.lt_succ_self n, rfl, rfl⟩
        · exact ⟨⟨n, hk⟩, ⟨n, by omega⟩, 0, Nat.lt_succ_self n, rfl, rfl⟩
      · exact ⟨k, k', j, Nat.lt_succ_of_lt h, h', rfl⟩
    · rintro ⟨k, k', j, h, h', rfl⟩
      rcases Nat.lt_succ_iff_lt_or_eq.mp h with h | h
      · exact .inr ⟨k, k', j, h, h', rfl⟩
      · left
        obtain rfl : k = ⟨n, hk⟩ := Fin.ext h
        have hk' : (⟨n, by omega⟩ : Fin 16) = k' := Fin.ext h'.symm
        rw [hk']
        fin_cases j <;> simp

/-- What the loop leaves in the scratch, read whole: the permuted rows. -/
theorem canon_pb (𝒱 : Variants) (c : Dev nD) (bd : Option 𝒱.V) (i : grid0.Coords) (arg1 : Memref sig .tc .vmem S1024x1536 .bf16) (harg1 : arg1.IsWhole) (arg2 : Memref sig .tc .vmem S1x1536 .f32) (harg2 : arg2.IsWhole) (arg3 : Memref sig .tc .vmem S256x768 .i8) (harg3 : arg3.IsWhole) (arg4 : Memref sig .tc .vmem S48x256 .bf16) (harg4 : arg4.IsWhole) (arg5 : Memref sig .tc .vmem S1024x256 .fp8e4m3) (harg5 : arg5.IsWhole) (arg6 : Memref sig .tc .vmem S70x1x1024 .f32) (harg6 : arg6.IsWhole) (arg7 : Memref sig .tc .vmem S1024x1536 .bf16) (harg7 : arg7.IsWhole) (k0_h1 : k0_cond1 i = 1#1) (x0 : Vec F S1024x1536 .bf16) (x1 : Vec F S1x1536 .f32) :
    View.canon (pb_k0_t1 (F := F) 𝒱 c bd i arg1 harg1 arg2 harg2 arg3 harg3 arg4 harg4 arg5 harg5 arg6 harg6 arg7 harg7 k0_h1 (harg1.unread x0) (harg2.unread x1) (Scf.trips k0_t1_loop.lb k0_t1_loop.ub k0_t1_loop.st)) = XN x0 x1 := by
  rw [show Scf.trips k0_t1_loop.lb k0_t1_loop.ub k0_t1_loop.st = 16 from trips_eq]
  funext y
  have y0 := idx2_lt0 y; have y1 := idx2_lt1 y
  refine View.canon_apply_of_pieces (XN x0 x1) _ (fun p hp x => ?_) y ?_
  · obtain ⟨k, k', j, -, h', rfl⟩ := (pb_mem 𝒱 c bd i arg1 harg1 arg2 harg2 arg3 harg3 arg4 harg4 arg5 harg5 arg6 harg6 arg7 harg7 k0_h1 x0 x1 16 le_rfl p).mp hp
    exact XN_piece x0 x1 k j x k' h'
  · exact ⟨_, (pb_mem 𝒱 c bd i arg1 harg1 arg2 harg2 arg3 harg3 arg4 harg4 arg5 harg5 arg6 harg6 arg7 harg7 k0_h1 x0 x1 16 le_rfl _).mpr ⟨⟨(y 0).val / 64, by rw [trips_eq]; omega⟩, ⟨(y 0).val / 64, by omega⟩, ⟨(y 1).val / 128, by omega⟩, by show _ / 64 < 16; omega, rfl, rfl⟩,
      mem_set_emb _ (show S64x128.Idx from ix2 ⟨(y 0).val % 64, by omega⟩ ⟨(y 1).val % 128, by omega⟩) y fun a => by
        fin_cases a
        · show (y 0).val = 64 * ((y 0).val / 64) + 1 * ((y 0).val % 64); omega
        · show (y 1).val = 128 * ((y 1).val / 128) + 1 * ((y 1).val % 128); omega⟩

/-- The pieces of the loop cover the scratch. -/
theorem cover_pb (𝒱 : Variants) (c : Dev nD) (bd : Option 𝒱.V) (i : grid0.Coords) (arg1 : Memref sig .tc .vmem S1024x1536 .bf16) (harg1 : arg1.IsWhole) (arg2 : Memref sig .tc .vmem S1x1536 .f32) (harg2 : arg2.IsWhole) (arg3 : Memref sig .tc .vmem S256x768 .i8) (harg3 : arg3.IsWhole) (arg4 : Memref sig .tc .vmem S48x256 .bf16) (harg4 : arg4.IsWhole) (arg5 : Memref sig .tc .vmem S1024x256 .fp8e4m3) (harg5 : arg5.IsWhole) (arg6 : Memref sig .tc .vmem S70x1x1024 .f32) (harg6 : arg6.IsWhole) (arg7 : Memref sig .tc .vmem S1024x1536 .bf16) (harg7 : arg7.IsWhole) (k0_h1 : k0_cond1 i = 1#1) (x0 : Vec F S1024x1536 .bf16) (x1 : Vec F S1x1536 .f32) (y : S1024x1536.Idx) :
    ∃ p ∈ pb_k0_t1 (F := F) 𝒱 c bd i arg1 harg1 arg2 harg2 arg3 harg3 arg4 harg4 arg5 harg5 arg6 harg6 arg7 harg7 k0_h1 (harg1.unread x0) (harg2.unread x1) (Scf.trips k0_t1_loop.lb k0_t1_loop.ub k0_t1_loop.st), y ∈ p.1.set := by
  rw [show Scf.trips k0_t1_loop.lb k0_t1_loop.ub k0_t1_loop.st = 16 from trips_eq]
  have y0 := idx2_lt0 y; have y1 := idx2_lt1 y
  exact ⟨_, (pb_mem 𝒱 c bd i arg1 harg1 arg2 harg2 arg3 harg3 arg4 harg4 arg5 harg5 arg6 harg6 arg7 harg7 k0_h1 x0 x1 16 le_rfl _).mpr ⟨⟨(y 0).val / 64, by rw [trips_eq]; omega⟩, ⟨(y 0).val / 64, by omega⟩, ⟨(y 1).val / 128, by omega⟩, by show _ / 64 < 16; omega, rfl, rfl⟩,
      mem_set_emb _ (show S64x128.Idx from ix2 ⟨(y 0).val % 64, by omega⟩ ⟨(y 1).val % 128, by omega⟩) y fun a => by
        fin_cases a
        · show (y 0).val = 64 * ((y 0).val / 64) + 1 * ((y 0).val % 64); omega
        · show (y 1).val = 128 * ((y 1).val / 128) + 1 * ((y 1).val % 128); omega⟩

/-! ## The codes of a tile -/

/-- The codes of a tile. -/
def CODES (H : FVec F S1024x256 .f32) : Vec F S1024x256 .fp8e4m3 := fun y =>
  QC (HBLK H ⟨(y 0).val / 128, by have := idx2_lt0 y; omega⟩ ⟨(y 1).val / 128, by have := idx2_lt1 y; omega⟩)
    (ix2 ⟨(y 0).val % 128, by omega⟩ ⟨(y 1).val % 128, by omega⟩)

theorem pieces4_mem (H : FVec F S1024x256 .f32) (p) : p ∈ PIECES4 H ↔ ∃ (r : Fin 8) (o : Fin 2), p = P4 H r o := by
  unfold PIECES4
  simp only [List.mem_cons, List.not_mem_nil, _root_.or_false]
  constructor
  · rintro (rfl | rfl | rfl | rfl | rfl | rfl | rfl | rfl | rfl | rfl | rfl | rfl | rfl | rfl | rfl | rfl)
    all_goals exact ⟨_, _, rfl⟩
  · rintro ⟨r, o, rfl⟩
    fin_cases r <;> fin_cases o <;> simp

theorem CODES_piece (H : FVec F S1024x256 .f32) (r : Fin 8) (o : Fin 2) (x : S128x128.Idx) :
    QC (HBLK H r o) x = CODES H ((Rect.unit (s := S1024x256) ![128 * r.val, 128 * o.val] S128x128.size (p4_inb r o)).emb x) := by
  have x0lt := idx2_lt0 x; have x1lt := idx2_lt1 x
  unfold CODES
  congr 1
  · congr 1
    congr 1
    · apply Fin.ext; show r.val = (128 * r.val + 1 * (x 0).val) / 128; omega
    · apply Fin.ext; show o.val = (128 * o.val + 1 * (x 1).val) / 128; omega
  · refine (eq_ix2 x).trans ?_
    congr 1
    · apply Fin.ext; show (x 0).val = (128 * r.val + 1 * (x 0).val) % 128; omega
    · apply Fin.ext; show (x 1).val = (128 * o.val + 1 * (x 1).val) % 128; omega

/-- Whatever the codes tile held, after the stores it holds the codes. -/
theorem read_pieces4 {κ : Kind} {sp : Space} (v : View sig κ sp S1024x256 .fp8e4m3) (f : v.ty.Contents (Elt F)) (H : FVec F S1024x256 .f32) :
    v.read (Elt F) (v.writes (Elt F) f (PIECES4 H)) = CODES H := by
  funext y
  have y0 := idx2_lt0 y; have y1 := idx2_lt1 y
  refine View.read_writes_apply_of_pieces v f (CODES H) _ (fun p hp x => ?_) y ?_
  · obtain ⟨r, o, rfl⟩ := (pieces4_mem H p).mp hp
    exact CODES_piece H r o x
  · exact ⟨_, (pieces4_mem H _).mpr ⟨⟨(y 0).val / 128, by omega⟩, ⟨(y 1).val / 128, by omega⟩, rfl⟩,
      mem_set_emb _ (show S128x128.Idx from ix2 ⟨(y 0).val % 128, by omega⟩ ⟨(y 1).val % 128, by omega⟩) y fun a => by
        fin_cases a
        · show (y 0).val = 128 * ((y 0).val / 128) + 1 * ((y 0).val % 128); omega
        · show (y 1).val = 128 * ((y 1).val / 128) + 1 * ((y 1).val % 128); omega⟩

/-! ## The scales of all tiles -/

theorem p5_inb (i : grid0.Coords) (r : Fin 8) (o : Fin 2) : ∀ a, (![2 * (i 0).val + o.val, 0, 128 * r.val] : Fin 3 → ℕ) a + S1x1x128.size a ≤ S70x1x1024.size a := by
  have hi : (i 0).val < 35 := (i 0).isLt
  intro a; fin_cases a
  · show 2 * (i 0).val + o.val + 1 ≤ 70; omega
  · show 0 + 1 ≤ 1; omega
  · show 128 * r.val + 128 ≤ 1024; omega

/-- The scales of block `(r, o)`, at their place among all scales. -/
def P5 (H : FVec F S1024x256 .f32) (i : grid0.Coords) (r : Fin 8) (o : Fin 2) : View.Piece (Elt F) S70x1x1024 .f32 :=
  ⟨Rect.unit (s := S70x1x1024) ![2 * (i 0).val + o.val, 0, 128 * r.val] S1x1x128.size (p5_inb i r o), QS (HBLK H r o)⟩

theorem pieces5_eq (i : grid0.Coords) (H : FVec F S1024x256 .f32) : PIECES5 i H = [P5 H i 7 1, P5 H i 6 1, P5 H i 5 1, P5 H i 4 1, P5 H i 3 1, P5 H i 2 1, P5 H i 1 1, P5 H i 0 1, P5 H i 7 0, P5 H i 6 0, P5 H i 5 0, P5 H i 4 0, P5 H i 3 0, P5 H i 2 0, P5 H i 1 0, P5 H i 0 0] :=
  (congrArg₂ List.cons (piece_congr (F := F) (s := S70x1x1024) (e := .f32) (size := S1x1x128.size) (k0_off21_eq i 1) _ _ _) (congrArg₂ List.cons (piece_congr (F := F) (s := S70x1x1024) (e := .f32) (size := S1x1x128.size) (k0_off20_eq i 1) _ _ _) (congrArg₂ List.cons (piece_congr (F := F) (s := S70x1x1024) (e := .f32) (size := S1x1x128.size) (k0_off19_eq i 1) _ _ _) (congrArg₂ List.cons (piece_congr (F := F) (s := S70x1x1024) (e := .f32) (size := S1x1x128.size) (k0_off18_eq i 1) _ _ _) (congrArg₂ List.cons (piece_congr (F := F) (s := S70x1x1024) (e := .f32) (size := S1x1x128.size) (k0_off17_eq i 1) _ _ _) (congrArg₂ List.cons (piece_congr (F := F) (s := S70x1x1024) (e := .f32) (size := S1x1x128.size) (k0_off16_eq i 1) _ _ _) (congrArg₂ List.cons (piece_congr (F := F) (s := S70x1x1024) (e := .f32) (size := S1x1x128.size) (k0_off15_eq i 1) _ _ _) (congrArg₂ List.cons (piece_congr (F := F) (s := S70x1x1024) (e := .f32) (size := S1x1x128.size) (k0_off14_eq i 1) _ _ _) (congrArg₂ List.cons (piece_congr (F := F) (s := S70x1x1024) (e := .f32) (size := S1x1x128.size) (k0_off21_eq i 0) _ _ _) (congrArg₂ List.cons (piece_congr (F := F) (s := S70x1x1024) (e := .f32) (size := S1x1x128.size) (k0_off20_eq i 0) _ _ _) (congrArg₂ List.cons (piece_congr (F := F) (s := S70x1x1024) (e := .f32) (size := S1x1x128.size) (k0_off19_eq i 0) _ _ _) (congrArg₂ List.cons (piece_congr (F := F) (s := S70x1x1024) (e := .f32) (size := S1x1x128.size) (k0_off18_eq i 0) _ _ _) (congrArg₂ List.cons (piece_congr (F := F) (s := S70x1x1024) (e := .f32) (size := S1x1x128.size) (k0_off17_eq i 0) _ _ _) (congrArg₂ List.cons (piece_congr (F := F) (s := S70x1x1024) (e := .f32) (size := S1x1x128.size) (k0_off16_eq i 0) _ _ _) (congrArg₂ List.cons (piece_congr (F := F) (s := S70x1x1024) (e := .f32) (size := S1x1x128.size) (k0_off15_eq i 0) _ _ _) (congrArg₂ List.cons (piece_congr (F := F) (s := S70x1x1024) (e := .f32) (size := S1x1x128.size) (k0_off14_eq i 0) _ _ _) rfl))))))))))))))))

theorem pieces5_mem (i : grid0.Coords) (H : FVec F S1024x256 .f32) (p) : p ∈ PIECES5 i H ↔ ∃ (r : Fin 8) (o : Fin 2), p = P5 H i r o := by
  rw [pieces5_eq]
  simp only [List.mem_cons, List.not_mem_nil, _root_.or_false]
  constructor
  · rintro (rfl | rfl | rfl | rfl | rfl | rfl | rfl | rfl | rfl | rfl | rfl | rfl | rfl | rfl | rfl | rfl)
    all_goals exact ⟨_, _, rfl⟩
  · rintro ⟨r, o, rfl⟩
    fin_cases r <;> fin_cases o <;> simp

/-- The scales of all tiles, tile `t`'s product being `Hs t`. -/
def SCALES (Hs : Fin 35 → FVec F S1024x256 .f32) : Vec F S70x1x1024 .f32 := fun y =>
  QS (HBLK (Hs ⟨(y 0).val / 2, by have h : (y 0).val < 70 := (y 0).isLt; omega⟩)
      ⟨(y 2).val / 128, by have h : (y 2).val < 1024 := (y 2).isLt; omega⟩ ⟨(y 0).val % 2, by omega⟩)
    (ix3 0 0 ⟨(y 2).val % 128, by omega⟩)

theorem SCALES_piece (Hs : Fin 35 → FVec F S1024x256 .f32) (i : grid0.Coords) (t : Fin 35) (ht : (i 0).val = t.val) (r : Fin 8) (o : Fin 2) (x : S1x1x128.Idx) :
    QS (HBLK (Hs t) r o) x = SCALES Hs ((Rect.unit (s := S70x1x1024) ![2 * (i 0).val + o.val, 0, 128 * r.val] S1x1x128.size (p5_inb i r o)).emb x) := by
  have x0lt : (x 0).val < 1 := (x 0).isLt
  have x1lt : (x 1).val < 1 := (x 1).isLt
  have x2lt : (x 2).val < 128 := (x 2).isLt
  unfold SCALES
  congr 1
  · congr 1
    congr 1
    · congr 1
      apply Fin.ext; show t.val = (2 * (i 0).val + o.val + 1 * (x 0).val) / 2; omega
    · apply Fin.ext; show r.val = (128 * r.val + 1 * (x 2).val) / 128; omega
    · apply Fin.ext; show o.val = (2 * (i 0).val + o.val + 1 * (x 0).val) % 2; omega
  · refine (eq_ix3 x).trans ?_
    congr 1
    · apply Fin.ext; show (x 0).val = 0; omega
    · apply Fin.ext; show (x 1).val = 0; omega
    · apply Fin.ext; show (x 2).val = (128 * r.val + 1 * (x 2).val) % 128; omega

/-- If the scales array held the scales of the tiles before `t`, after tile `t`'s stores it holds those of the tiles up to `t`. -/
theorem read_pieces5 {κ : Kind} {sp : Space} (v : View sig κ sp S70x1x1024 .f32) (f : v.ty.Contents (Elt F)) (Hs : Fin 35 → FVec F S1024x256 .f32)
    (i : grid0.Coords) (t : Fin 35) (ht : (i 0).val = t.val) (hf : ∀ y : S70x1x1024.Idx, (y 0).val < 2 * t.val → v.read (Elt F) f y = SCALES Hs y) :
    ∀ y : S70x1x1024.Idx, (y 0).val < 2 * (t.val + 1) → v.read (Elt F) (v.writes (Elt F) f (PIECES5 i (Hs t))) y = SCALES Hs y := by
  intro y hy
  have y1 : (y 1).val < 1 := (y 1).isLt
  have y2 : (y 2).val < 1024 := (y 2).isLt
  by_cases h : (y 0).val < 2 * t.val
  · rw [View.read_writes_apply_of_forall_not_mem v f y _ fun p hp => ?_]
    · exact hf y h
    · obtain ⟨r, o, rfl⟩ := (pieces5_mem i (Hs t) p).mp hp
      exact Rect.not_mem_set_of_axis _ y 0 (2 * (i 0).val + o.val) 1 rfl rfl rfl (.inl (by omega))
  · refine View.read_writes_apply_of_pieces v f (SCALES Hs) _ (fun p hp x => ?_) y ?_
    · obtain ⟨r, o, rfl⟩ := (pieces5_mem i (Hs t) p).mp hp
      exact SCALES_piece Hs i t ht r o x
    · exact ⟨_, (pieces5_mem i (Hs t) _).mpr ⟨⟨(y 2).val / 128, by omega⟩, ⟨(y 0).val % 2, by omega⟩, rfl⟩,
        mem_set_emb _ (show S1x1x128.Idx from ix3 0 0 ⟨(y 2).val % 128, by omega⟩) y fun a => by
          fin_cases a
          · show (y 0).val = 2 * (i 0).val + (y 0).val % 2 + 1 * 0; omega
          · show (y 1).val = 0 + 1 * 0; omega
          · show (y 2).val = 128 * ((y 2).val / 128) + 1 * ((y 2).val % 128); omega⟩

end Cert.KernelIdeal.Hand

end
-- ==== Proof.Steps.lean ====
/- One grid point: what the body leaves in each buffer, given what it finds. -/
module

public import proofs.«01_k».proof.Proof.Pieces
public import proofs.«01_k».proof.Proof.Fills

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A load of a whole buffer through the rectangle at zero is the buffer's contents. -/
theorem readAt_whole {arg7 : Memref sig .tc .vmem S1024x1536 .bf16} (harg7 : arg7.IsWhole) (xs0 : Vec F S1024x1536 .bf16) :
    arg7.view.readAt (Elt F) (Rect.unit (s := S1024x1536) ![0, 0] S1024x1536.size inb_S1024x1536_S1024x1536_0_0).toLoadRect (harg7.unread xs0) = xs0 := by
  rw [View.readAt_eq_ld, harg7.read_unread]
  exact View.ld_unit_zero (by funext a; fin_cases a <;> rfl) _ xs0

/-- A whole buffer owned at some contents, as its cells at those contents. -/
theorem owns_unread (c : Dev nD) {s : Shape} {e : EltTy} (arg6 : Memref sig .tc .vmem s e) (harg6 : arg6.IsWhole) (Y : s.Idx → Elt F e) :
    (owns (c : Thread nD τ) arg6 fullShare Y : sProp 𝕄) ⊢ (arg6.view.loc (c : Thread nD τ) ↦[arg6.view.set]{fullShare} harg6.unread Y) := by
  unfold owns
  iintro ⟨%f, %hf, H⟩
  obtain rfl := harg6.eq_unread hf
  iexact H

set_option maxHeartbeats 3200000 in
/-- The first point: the scratch is filled, then the tile is computed from it. -/
theorem step_A (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S256x768 .i8) (harg3 : arg3.IsWhole) (arg4 : Memref sig .tc .vmem S48x256 .bf16) (harg4 : arg4.IsWhole) (arg5 : Memref sig .tc .vmem S1024x256 .fp8e4m3) (harg5 : arg5.IsWhole) (arg6 : Memref sig .tc .vmem S70x1x1024 .f32) (harg6 : arg6.IsWhole) (arg7 : Memref sig .tc .vmem S1024x1536 .bf16) (harg7 : arg7.IsWhole) (hc0 : cond0_0 i)
    (x0 : Vec F S1024x1536 .bf16) (x1 : Vec F S1x1536 .f32) (x2 : Vec F S256x768 .i8) (x3 : Vec F S48x256 .bf16) (Y : Vec F S70x1x1024 .f32)
    (Hs : Fin 35 → FVec F S1024x256 .f32) (t : Fin 35) (ht : (i 0).val = t.val) (hY : ∀ y : S70x1x1024.Idx, (y 0).val < 2 * t.val → Y y = SCALES Hs y)
    (hH : HT (XN x0 x1) x2 x3 = Hs t) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare Y ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (CODES (Hs t))
            ∗ (∃ X, ⌜∀ y : S70x1x1024.Idx, (y 0).val < 2 * (t.val + 1) → X y = SCALES Hs y⌝ ∗ owns (c : Thread nD τ) arg6 fullShare X) ∗ owns (c : Thread nD τ) arg7 fullShare (XN x0 x1)) -∗ K ⟨⟩))
      ⊢ wp frame (wpE (defs₀ (F := F)) Variants.none c none) E (cc0_rmsnorm_q4_linear_fp8 i arg1 harg1 arg2 harg2 arg3 harg3 arg4 harg4 arg5 harg5 arg6 harg6 arg7 harg7) K := by
  have h4 := pieces4_A c i arg1 harg1 arg2 harg2 arg3 harg3 arg4 harg4 arg5 harg5 arg6 harg6 arg7 harg7 hc0 x0 x1 x2 x3
  have h5 := pieces5_A c i arg1 harg1 arg2 harg2 arg3 harg3 arg4 harg4 arg5 harg5 arg6 harg6 arg7 harg7 hc0 x0 x1 x2 x3
  rw [View.readCov_eq_canon', canon_pb] at h4 h5
  rw [show (fun j => XN x0 x1 ((Rect.unit (s := S1024x1536) ![0, 0] S1024x1536.size inb_S1024x1536_S1024x1536_0_0).toLoadRect.idx j)) = XN x0 x1 from
    View.ld_unit_zero (by funext a; fin_cases a <;> rfl) _ (XN x0 x1)] at h4 h5
  rw [harg3.read_unread, harg4.read_unread, hH] at h4 h5
  iintro ⟨H0, H1, H2, H3, H4, H5, HS, Hk⟩
  iapply ((kernelRun0_A c i arg1 harg1 arg2 harg2 arg3 harg3 arg4 harg4 arg5 harg5 arg6 harg6 arg7 harg7 hc0 x0 x1 x2 x3).2.2.2 E (harg6.unread Y) K)
  isplitl [H0]; · iexact H0
  isplitl [H1]; · iexact H1
  isplitl [H2]; · iexact H2
  isplitl [H3]; · iexact H3
  isplitl [H4]; · iexact H4
  isplitl [H5]
  · iapply (owns_unread c arg6 harg6 Y); iexact H5
  isplitl [HS]; · iexact HS
  iintro ⟨H0, H1, H2, H3, ⟨%e4, H4⟩, H5, HS⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; rw [h4]; exact read_pieces4 _ _ _
  isplitl [H5]
  · iexists (arg6.view.read (Elt F) (arg6.view.writes (Elt F) (harg6.unread Y) (PIECES5 i (Hs t)))); isplitr
    · ipureintro; exact read_pieces5 _ _ Hs i t ht (by rw [harg6.read_unread]; exact hY)
    unfold owns; iexists _; isplitr
    swap; · iexact H5
    ipureintro; rw [h5]
  icases HS with ⟨%es, HS⟩
  unfold owns; iexists _; isplitr
  swap; · iexact HS
  ipureintro
  refine (View.read_writes_eq_canon _ _ _ (cover_pb _ _ _ _ _ _ _ _ _ _ _ _ _ _ _ _ _ _ _ _ _)).trans (canon_pb _ _ _ _ _ _ _ _ _ _ _ _ _ _ _ _ _ _ _ _ _)

set_option maxHeartbeats 3200000 in
/-- A later point: the tile is computed from the scratch as the first point left it. -/
theorem step_B (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S256x768 .i8) (harg3 : arg3.IsWhole) (arg4 : Memref sig .tc .vmem S48x256 .bf16) (harg4 : arg4.IsWhole) (arg5 : Memref sig .tc .vmem S1024x256 .fp8e4m3) (harg5 : arg5.IsWhole) (arg6 : Memref sig .tc .vmem S70x1x1024 .f32) (harg6 : arg6.IsWhole) (arg7 : Memref sig .tc .vmem S1024x1536 .bf16) (harg7 : arg7.IsWhole) (hc0 : ¬cond0_0 i)
    (x0 : Vec F S1024x1536 .bf16) (x1 : Vec F S1x1536 .f32) (x2 : Vec F S256x768 .i8) (x3 : Vec F S48x256 .bf16) (xs0 : Vec F S1024x1536 .bf16) (Y : Vec F S70x1x1024 .f32)
    (Hs : Fin 35 → FVec F S1024x256 .f32) (t : Fin 35) (ht : (i 0).val = t.val) (hY : ∀ y : S70x1x1024.Idx, (y 0).val < 2 * t.val → Y y = SCALES Hs y)
    (hH : HT xs0 x2 x3 = Hs t) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare Y ∗ owns (c : Thread nD τ) arg7 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (CODES (Hs t))
            ∗ (∃ X, ⌜∀ y : S70x1x1024.Idx, (y 0).val < 2 * (t.val + 1) → X y = SCALES Hs y⌝ ∗ owns (c : Thread nD τ) arg6 fullShare X) ∗ owns (c : Thread nD τ) arg7 fullShare xs0) -∗ K ⟨⟩))
      ⊢ wp frame (wpE (defs₀ (F := F)) Variants.none c none) E (cc0_rmsnorm_q4_linear_fp8 i arg1 harg1 arg2 harg2 arg3 harg3 arg4 harg4 arg5 harg5 arg6 harg6 arg7 harg7) K := by
  have h4 := pieces4_B c i arg1 harg1 arg2 harg2 arg3 harg3 arg4 harg4 arg5 harg5 arg6 harg6 arg7 harg7 hc0 x0 x1 x2 x3 xs0
  have h5 := pieces5_B c i arg1 harg1 arg2 harg2 arg3 harg3 arg4 harg4 arg5 harg5 arg6 harg6 arg7 harg7 hc0 x0 x1 x2 x3 xs0
  rw [readAt_whole] at h4 h5
  rw [harg3.read_unread, harg4.read_unread, hH] at h4 h5
  iintro ⟨H0, H1, H2, H3, H4, H5, HS, Hk⟩
  iapply ((kernelRun0_B c i arg1 harg1 arg2 harg2 arg3 harg3 arg4 harg4 arg5 harg5 arg6 harg6 arg7 harg7 hc0 x0 x1 x2 x3 xs0).2.2.2 E (harg6.unread Y) K)
  isplitl [H0]; · iexact H0
  isplitl [H1]; · iexact H1
  isplitl [H2]; · iexact H2
  isplitl [H3]; · iexact H3
  isplitl [H4]; · iexact H4
  isplitl [H5]
  · iapply (owns_unread c arg6 harg6 Y); iexact H5
  isplitl [HS]; · iexact HS
  iintro ⟨H0, H1, H2, H3, ⟨%e4, H4⟩, H5, HS⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; rw [h4]; exact read_pieces4 _ _ _
  isplitl [H5]
  · iexists (arg6.view.read (Elt F) (arg6.view.writes (Elt F) (harg6.unread Y) (PIECES5 i (Hs t)))); isplitr
    · ipureintro; exact read_pieces5 _ _ Hs i t ht (by rw [harg6.read_unread]; exact hY)
    unfold owns; iexists _; isplitr
    swap; · iexact H5
    ipureintro; rw [h5]
  iexact HS

end Cert.KernelIdeal.Hand

end
-- ==== Proof.FrameHand.lean ====
/- The run of the idealized kernel: the proof data, the body obligation at every grid point, and what the result arrays hold. -/
module

public import proofs.«01_k».proof.Proof.Steps
public import Idealize.ShloMosaic.Lib.Pipeline.DatRel
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The first grid point. -/
def z0 : Fin cfg0.N := ⟨0, lt_of_lt_of_eq (by decide) N_0.symm⟩

/-- What the scratch holds after the first point: the permuted rows. -/
def XNc (c : Dev nD) : Vec F S1024x1536 .bf16 := XN (iblk m c 0 z0) (iblk m c 1 z0)

/-- The product of tile `t`. -/
def HS (c : Dev nD) (t : Fin 35) : FVec F S1024x256 .f32 :=
  HT (XNc m c) (iblk m c 2 (t.cast N_0.symm)) (iblk m c 3 (t.cast N_0.symm))

/-- The invariant between points: before the first, nothing is known of the scratch; after it, it holds the permuted rows. -/
def PhiS (c : Dev nD) (n : ℕ) : sProp 𝕄 :=
  if n = 0 then Pipeline.ΦA spec0 c else iprop(owns (c : Thread nD τ) scM0_0 fullShare (XNc m c) ∗ (∃ r, prngReg c r))

theorem PhiS_pos (c : Dev nD) (n : ℕ) (h : n ≠ 0) :
    PhiS m c n = iprop(owns (c : Thread nD τ) scM0_0 fullShare (XNc m c) ∗ (∃ r, prngReg c r)) := by unfold PhiS; rw [if_neg h]

theorem PhiS_zero (c : Dev nD) : PhiS m c 0 = Pipeline.ΦA spec0 c := by unfold PhiS; rw [if_pos rfl]

/-- The proof data: each input's buffer at its block, the codes tile at the tile's codes. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => CODES (HS m c (t.cast N_0))
    | ⟨5, _⟩ => SCALES (HS m c)
  Φ t := PhiS m c t.val
  q _ := fullShare
  owed _ := 0

/-- The scales array is held to a predicate. -/
def fgt : Fin cfg0.W → Bool := fun w => match w with
  | ⟨5, _⟩ => true
  | _ => false

/-- After point `t` the scales array holds the scales of the tiles up to `t`. -/
def Rl (c : Dev nD) : (w : Fin cfg0.W) → Fin cfg0.N → ((cfg0.win w).block.Idx → Elt F (cfg0.win w).elt) → Prop := fun w t => match w with
  | ⟨5, _⟩ => fun X : Vec F S70x1x1024 .f32 => ∀ y : S70x1x1024.Idx, (y 0).val < 2 * (t.val + 1) → X y = SCALES (HS m c) y
  | _ => fun _ => True

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = CODES (HS m c (t.cast N_0)) := by dsimp only [dats]

theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d
theorem before0_3 (c : Dev nD) (t : Fin cfg0.N) (d) : (dats m c).before 3 t d = iblk m c 3 t :=
  before0_3_of m (dats m c) (A_eq m c 3) (after0_3 m c) t d

theorem fetch5 (t : Fin cfg0.N) : (cfg0.win 5).fetch t = false := by revert t; decide +kernel
theorem flush5 : ∀ t : Fin cfg0.N, (cfg0.win 5).flush t = true → t.val = 34 := by decide +kernel

/-- What the body finds in the scales array: the scales of the earlier tiles. -/
theorem finds5 (c : Dev nD) (t : Fin cfg0.N) (Y : Vec F S70x1x1024 .f32) (h : ((dats m c).toRRel fgt (Rl m c)).Finds 5 t Y) :
    ∀ y : S70x1x1024.Idx, (y 0).val < 2 * t.val → Y y = SCALES (HS m c) y := by
  intro y hy
  have hN : t.val < 35 := lt_of_lt_of_eq t.isLt N_0
  have ht : t.val ≠ 0 := by omega
  rcases (((dats m c).toRRel fgt (Rl m c)).finds_of_pos (fetch5 t) ht Y).mp h with h | h
  · have := flush5 _ h
    dsimp only at this; omega
  · have h' : Rl m c 5 ⟨t.val - 1, _⟩ Y := (dats m c).toRRel_leaves (w := 5) rfl h
    exact h' y (by show (y 0).val < 2 * (t.val - 1 + 1); omega)

/-! ## The body obligation -/

/-- What the body is called with at point `t`, -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ Y, ⌜((dats m c).toRRel fgt (Rl m c)).Finds 5 t Y⌝ ∗ owns (c : Thread nD τ) (ms0_5 t) fullShare Y))

/-- and what it returns. -/
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ owns (c : Thread nD τ) (ms0_4 t) fullShare ((dats m c).after 4 t)
    ∗ (∃ X, ⌜Rl m c 5 t X⌝ ∗ owns (c : Thread nD τ) (ms0_5 t) fullShare X))

theorem coords_val (t : Fin cfg0.N) : (grid0.coords t 0).val = (t.cast N_0 : Fin 35).val := by
  have ht : t.val < 35 := Nat.lt_of_lt_of_eq t.isLt N_0
  have e0 : (grid0.coords t 0).val = t.val / 1 % 35 := Pipeline.Grid.coords_val t 0 (by decide) rfl
  rw [e0]; show t.val / 1 % 35 = t.val; omega

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m c).owesAt () t.succ = (dats m c).owesAt () t.castSucc from rfl,
    after0_0, after0_1, after0_2, after0_3, after0_4]
  rw [show (dats m c).Φ t.succ = PhiS m c (t.val + 1) from rfl, PhiS_pos m c _ (Nat.succ_ne_zero _),
    show (dats m c).Φ t.castSucc = PhiS m c t.val from rfl]
  have hN : t.val < 35 := lt_of_lt_of_eq t.isLt N_0
  by_cases hz : t.val = 0
  · obtain rfl : t = z0 := Fin.ext hz
    rw [show PhiS m c (z0 : Fin cfg0.N).val = PhiS m c 0 from rfl, PhiS_zero, PhiA0_eq]
    iintro ⟨⟨HS0, Hg⟩, Ho, ⟨%d0, H0⟩, ⟨%d1, H1⟩, ⟨%d2, H2⟩, ⟨%d3, H3⟩, ⟨%d4, H4⟩, ⟨%Y, %hY, H5⟩⟩
    iapply (step_A c (grid0.coords z0) (ms0_0 z0) (hs0_0 z0) (ms0_1 z0) (hs0_1 z0) (ms0_2 z0) (hs0_2 z0) (ms0_3 z0) (hs0_3 z0) (ms0_4 z0) (hs0_4 z0) (ms0_5 z0) (hs0_5 z0) scM0_0 (Memref.isWhole_whole _)
      ((hcond0_0 z0).mpr rfl) (iblk m c 0 z0) (iblk m c 1 z0) (iblk m c 2 z0) (iblk m c 3 z0) Y (HS m c) (z0.cast N_0) (coords_val z0) (finds5 m c z0 Y hY) rfl Set.univ)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, H4, ⟨%X, %hX, H5⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexists X; isplitr; · ipureintro; exact hX
    iexact H5
  · have hc : ¬cond0_0 (grid0.coords t) := fun h => hz (by have := (hcond0_0 t).mp h; omega)
    rw [PhiS_pos m c _ hz]
    iintro ⟨⟨HS0, Hg⟩, Ho, ⟨%d0, H0⟩, ⟨%d1, H1⟩, ⟨%d2, H2⟩, ⟨%d3, H3⟩, ⟨%d4, H4⟩, ⟨%Y, %hY, H5⟩⟩
    iapply (step_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      hc (iblk m c 0 t) (iblk m c 1 t) (iblk m c 2 t) (iblk m c 3 t) (XNc m c) Y (HS m c) (t.cast N_0) (coords_val t) (finds5 m c t Y hY) rfl Set.univ)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, H4, ⟨%X, %hX, H5⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexists X; isplitr; · ipureintro; exact hX
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : Pipeline.BodyObligationRel (dats (F := F) m c) (defs₀ (F := F)) Variants.none () Set.univ fgt (Rl m c) := fun t => by
  rw [bigSep_W0, bigSep_W0, defs₀_row]
  exact triple_restated (sound_body m c t) rfl .rfl fun _ => .rfl

theorem hin (c : Dev nD) : Pipeline.ΦA spec0 c ⊢ (dats m c).Φ 0 := by
  rw [show (dats m c).Φ 0 = PhiS m c 0 from rfl, PhiS_zero]

theorem hout (c : Dev nD) : (dats m c).Φ (Fin.last cfg0.N) ⊢ Pipeline.ΦA spec0 c := by
  rw [show (dats m c).Φ (Fin.last cfg0.N) = PhiS m c cfg0.N from rfl, PhiS_pos m c _ (by rw [show cfg0.N = 35 from N_0]; decide), PhiA0_eq]
  iintro ⟨HS0, Hg⟩
  isplitl [HS0]
  · iexists _; iexact HS0
  iexact Hg

/-! ## The run -/

set_option backward.isDefEq.respectTransparency.types false in
/-- The launch: every final state has every array as the proof data name it, and every semaphore counter at zero. -/
theorem run_main : θ_run defs (onTc (τ := τ) (main (F := F))) (s₀ m ρ)
    (fun r => Pipeline.RDat.FramePost cfg0 (fun c => (dats m c).toRRel fgt (Rl m c)) (V m) r ∧ r.2.sem = fun _ => 0) :=
  Pipeline.RDat.θ_run_frame_track (Q' := _) cfgs (0 : Fin 1) launch0 defs₀ Variants.none (fun c => (dats m c).toRRel fgt (Rl m c)) m ρ main
    (hbody := fun c => (body_obligation m c).toRRel) (hshare := fun c => (dats m c).share_full fun _ => rfl)
    (howed := fun _ _ => rfl) (V := V m) (hmain := hmain m Variants.none) (hA := A_eq m) (hin := hin m) (hout := hout m)

/-- The argument arrays end unchanged. -/
theorem args_of {r} (h : Pipeline.RDat.FramePost cfg0 (fun c => (dats (F := F) m c).toRRel fgt (Rl m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq m c 2).trans (V_main_arg2 m c)),
      ((h c).2 main_arg3 (Pipeline.mem_restRefs_of main_arg3 (by decide) (by decide))).trans (V_main_arg3 m c)⟩

/-- The frame, with every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_of m h.1, h.2⟩) (run_main m ρ)

/-! ## The result arrays -/

theorem flush4 (t : Fin cfg0.N) : (cfg0.win 4).flush t = true := by revert t; decide +kernel

theorem whole5 : (cfg0.win 5).WholeAt ⟨34, lt_of_lt_of_eq (by decide) N_0.symm⟩ := by decide +kernel

/-- The scales array after the run. -/
theorem scales_of {r} (h : Pipeline.RDat.FramePost cfg0 (fun c => (dats (F := F) m c).toRRel fgt (Rl m c)) (V m) r) (c : Dev nD) :
    (r.2.mem ((c.tc : Thread nD τ).loc main_v3_1) : Vec F S70x1x1024 .f32) = SCALES (HS m c) := by
  obtain ⟨X, hX, hG⟩ := Pipeline.RDat.ArrAt.emb_eq_of_wholeAt ((h c).1 5) whole5
  have hX' : Rl m c 5 ⟨34, _⟩ X := (dats m c).toRRel_leaves (w := 5) rfl hX
  funext y
  have hy : (y 0).val < 70 := (y 0).isLt
  exact (hG y).trans (hX' y (by show (y 0).val < 2 * (34 + 1); omega))

end Cert.KernelIdeal.Hand

end
-- ==== Proof.KernelRuns.lean ====
/- What the two runs of the kernel's body share: the claim's post from a relational run, where the conditional is taken,
   the staging memrefs of a point, and the scratch as a memref of its own. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 35 = 0 :=
  (fun t => by
    have ht : t.val < 35 := Nat.lt_of_lt_of_eq t.isLt N_0
    have e0 : (grid0.coords t 0).val = t.val / 1 % 35 := Pipeline.Grid.coords_val t 0 (by decide) rfl
    simp only [cond0_0, k0_cond1, e0]
    word_cmp
   : ∀ t : Fin grid0.N, cond0_0 (grid0.coords t) ↔ t.val % 35 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S70x1x1024 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x1536 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KernelRunA.lean ====
/- The run of the kernel's body where its conditional is taken. -/
module

public import proofs.«01_k».proof.Proof.KernelRuns

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3260000 in
/-- The body's run where its conditional is taken: from the inputs at their contents and the outputs and the scratch at
    anything, it hands the inputs back as they were and the others at some contents. -/
theorem kernelRun0_A (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S256x768 .i8) (harg3 : arg3.IsWhole) (arg4 : Memref sig .tc .vmem S48x256 .bf16) (harg4 : arg4.IsWhole) (arg5 : Memref sig .tc .vmem S1024x256 .fp8e4m3) (harg5 : arg5.IsWhole) (arg6 : Memref sig .tc .vmem S70x1x1024 .f32) (harg6 : arg6.IsWhole) (arg7 : Memref sig .tc .vmem S1024x1536 .bf16) (harg7 : arg7.IsWhole) (hc0 : cond0_0 i)
    (x0 : Vec F S1024x1536 .bf16) (x1 : Vec F S1x1536 .f32) (x2 : Vec F S256x768 .i8) (x3 : Vec F S48x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_rmsnorm_q4_linear_fp8 i arg1 harg1 arg2 harg2 arg3 harg3 arg4 harg4 arg5 harg5 arg6 harg6 arg7 harg7) K := by
    intro E K
    simp only [cc0_rmsnorm_q4_linear_fp8_eq_skeleton]; unfold cc0_rmsnorm_q4_linear_fp8_skel
    simp only [k0_part208_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part209_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part210_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part211_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Kernel.Hand

end
-- ==== Proof.KernelRunB.lean ====
/- The run of the kernel's body where its conditional is not taken. -/
module

public import proofs.«01_k».proof.Proof.KernelRunA

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3136000 in
/-- The body's run where its conditional is not taken: from the inputs at their contents and the outputs and the scratch at
    anything, it hands the inputs back as they were and the others at some contents. -/
theorem kernelRun0_B (c : Dev nD) (i : grid0.Coords) (arg1 : Memref sig .tc .vmem S1024x1536 .bf16) (harg1 : arg1.IsWhole) (arg2 : Memref sig .tc .vmem S1x1536 .f32) (harg2 : arg2.IsWhole) (arg3 : Memref sig .tc .vmem S256x768 .i8) (harg3 : arg3.IsWhole) (arg4 : Memref sig .tc .vmem S48x256 .bf16) (harg4 : arg4.IsWhole) (arg5 : Memref sig .tc .vmem S1024x256 .fp8e4m3) (harg5 : arg5.IsWhole) (arg6 : Memref sig .tc .vmem S70x1x1024 .f32) (harg6 : arg6.IsWhole) (arg7 : Memref sig .tc .vmem S1024x1536 .bf16) (harg7 : arg7.IsWhole) (hc0 : ¬cond0_0 i)
    (x0 : Vec F S1024x1536 .bf16) (x1 : Vec F S1x1536 .f32) (x2 : Vec F S256x768 .i8) (x3 : Vec F S48x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_rmsnorm_q4_linear_fp8 i arg1 harg1 arg2 harg2 arg3 harg3 arg4 harg4 arg5 harg5 arg6 harg6 arg7 harg7) K := by
    intro E K
    simp only [cc0_rmsnorm_q4_linear_fp8_eq_skeleton]; unfold cc0_rmsnorm_q4_linear_fp8_skel
    simp only [k0_part208_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part209_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part210_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part211_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Kernel.Hand

end
-- ==== Proof.KernelFrame.lean ====
/- The frame of the kernel as printed: the proof data, the body obligation, the run, and the claim. -/
module

public import proofs.«01_k».proof.Proof.KernelRunB
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (4, 5): nothing reads what the kernel leaves in them, so nothing
    of it is named (Lib/Pipeline/Dat.lean `Dat.toRForget`). -/
def forgets0 : Fin 6 → Bool := fun w => w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 35 := lt_of_lt_of_eq t.isLt (show cfg0.N = 35 from N_0)
  by_cases h0 : t.val % 35 = 0
  · iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_rel m ρ (fun c => (dats m 0 c).toRForget forgets0) (A_eq m) (run_main m ρ)

/-- The frame claim of the kernel, at any floats: every run ends, the arguments are kept and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.Codes.lean ====
/- What the run leaves in the codes array, and what each window's block holds of the arguments. -/
module

public import proofs.«01_k».proof.Proof.FrameHand
public import Idealize.ShloMosaic.Lib.ValueIdx
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)
open Cert.KernelIdeal.Gen

variable {F : FTy → Type} [FloatOps F] [Named F]

variable (m : (ℓ : Loc nD τ sig) → Buf (Elt F) ℓ)

/-- The codes of all tiles side by side. -/
def CODESA (Hs : Fin 35 → FVec F S1024x256 .f32) : Vec F S1024x8960 .fp8e4m3 := fun y =>
  CODES (Hs ⟨(y 1).val / 256, by have : (y 1).val < 8960 := (y 1).isLt; omega⟩)
    (ix2 (⟨(y 0).val, (y 0).isLt⟩ : Fin 1024) (⟨(y 1).val % 256, Nat.mod_lt _ (by decide)⟩ : Fin 256))

theorem idx4 : ∀ t : Fin cfg0.N, win0_4.index t (0 : Fin 2) = 0 ∧ win0_4.index t (1 : Fin 2) = t.val :=
  (by decide +kernel : ∀ t : Fin grid0.N, _)

/-- Element `j` of tile `t` of the codes array. -/
theorem emb4 (t : Fin cfg0.N) (i : Fin 1024) (j : Fin 256) :
    ((cfg0.win 4).blk t).view.emb (ix2 i j : S1024x256.Idx)
      = (ix2 i (⟨256 * t.val + j.val, by have : t.val < 35 := lt_of_lt_of_eq t.isLt N_0; omega⟩ : Fin 8960) : S1024x8960.Idx) := by
  obtain ⟨e0, e1⟩ := idx4 t
  funext a; apply Fin.ext
  match a with
  | ⟨0, _⟩ => show win0_4.index t (0 : Fin 2) * 1024 + 1 * i.val = i.val; omega
  | ⟨1, _⟩ => show win0_4.index t (1 : Fin 2) * 256 + 1 * j.val = 256 * t.val + j.val; omega

theorem eq_ix2 {a b : ℕ} (y : (⟨2, ![a, b]⟩ : Shape).Idx) : y = ix2 (⟨(y 0).val, (y 0).isLt⟩ : Fin a) (⟨(y 1).val, (y 1).isLt⟩ : Fin b) := by
  funext k; match k with
  | ⟨0, _⟩ => rfl
  | ⟨1, _⟩ => rfl

/-- The codes array after the run. -/
theorem codes_of {r} (h : Pipeline.RDat.FramePost cfg0 (fun c => (dats (F := F) m c).toRRel fgt (Rl m c)) (V m) r) (c : Dev nD) :
    (r.2.mem ((c.tc : Thread nD τ).loc main_v3_0) : Vec F S1024x8960 .fp8e4m3) = CODESA (HS m c) := by
  obtain ⟨after, hL, hA⟩ := Pipeline.RDat.FramePost.exists_exact h c
  have ha : ∀ t : Fin cfg0.N, after 4 t = CODES (HS m c (t.cast N_0)) := by
    intro t
    obtain ⟨Y, _, hY⟩ := hL 4 t (flush4 t)
    rw [(dats m c).toRRel_after_of_eq_false (w := 4) rfl] at hY
    have hY' : (dats m c).Leaves 4 t (after 4 t) := hY
    have : after 4 t = (dats m c).after 4 t := hY'
    rw [this, after0_4]
  refine (hA 4).trans ?_
  refine (((dats m c).toRRel fgt (Rl m c)).withAfter after).arrAt_eq_of_cover 4 (CODESA (HS m c)) (fun t _ => ?_) fun y => ?_
  · show (cfg0.win 4).cut (grid0.coords t) (after 4 t) = _
    rw [ha]
    funext j
    show CODES (HS m c (t.cast N_0)) j = CODESA (HS m c) (((cfg0.win 4).blk t).view.emb j)
    have hj : (j : S1024x256.Idx) = ix2 (⟨(j 0).val, (j 0).isLt⟩ : Fin 1024) (⟨(j 1).val, (j 1).isLt⟩ : Fin 256) := eq_ix2 _
    have hj1 : (j 1).val < 256 := (j 1).isLt
    rw [hj, emb4]
    have ht : t.val < 35 := lt_of_lt_of_eq t.isLt N_0
    show _ = CODES (HS m c ⟨(256 * t.val + (j 1).val) / 256, _⟩) (ix2 (⟨(j 0).val, _⟩ : Fin 1024) (⟨(256 * t.val + (j 1).val) % 256, _⟩ : Fin 256))
    have e1 : (256 * t.val + (j 1).val) / 256 = t.val := by omega
    have e2 : (256 * t.val + (j 1).val) % 256 = (j 1).val := by omega
    simp only [e1, e2]
    rfl
  · have hy1 : (y 1).val < 8960 := (y 1).isLt
    let t : Fin cfg0.N := ⟨(y 1).val / 256, lt_of_lt_of_eq (by omega : (y 1).val / 256 < 35) N_0.symm⟩
    refine ⟨t, flush4 t, ?_⟩
    have hm := ((cfg0.win 4).blk t).view.emb_mem_set
      (ix2 (⟨(y 0).val, (y 0).isLt⟩ : Fin 1024) (⟨(y 1).val % 256, Nat.mod_lt _ (by decide)⟩ : Fin 256) : S1024x256.Idx)
    rw [emb4] at hm
    have : (ix2 (⟨(y 0).val, (y 0).isLt⟩ : Fin 1024) (⟨256 * t.val + (y 1).val % 256, by show 256 * ((y 1).val / 256) + _ < _; omega⟩ : Fin 8960) : S1024x8960.Idx) = y := by
      refine Eq.trans ?_ (eq_ix2 (a := 1024) (b := 8960) y).symm
      congr 1
      apply Fin.ext
      show 256 * ((y 1).val / 256) + (y 1).val % 256 = (y 1).val
      omega
    exact this ▸ hm

/-! ## The windows' blocks -/

theorem V_v0 (c : Dev nD) : (V m c main_v0 : Vec F S1024x1536 .bf16)
    = shapeCast S1024x1536 (m ((c : Thread nD τ).loc main_arg0) : Vec F S1024x1x1536 .bf16) shapeCasts_S1024x1x1536_S1024x1536 := rfl

theorem V_v1 (c : Dev nD) : (V m c main_v1 : Vec F S1x1536 .f32)
    = shapeCast S1x1536 (m ((c : Thread nD τ).loc main_arg1) : Vec F S1536 .f32) shapeCasts_S1536_S1x1536 := rfl

theorem V_v2 (c : Dev nD) : (V m c main_v2 : Vec F S48x8960 .bf16)
    = transpose S48x8960 [1, 0] (m ((c : Thread nD τ).loc main_arg3) : Vec F S8960x48 .bf16) transposes_S8960x48_S48x8960_1_0 := rfl

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)

/-- The rows' block is the argument. -/
theorem block0 (c : Dev nD) (t : Fin cfg0.N) (r : Fin 1024) (k : Fin 1536) :
    (iblk m c 0 t : Vec F S1024x1536 .bf16) (ix2 r k) = (m ((c : Thread nD τ).loc main_arg0) : Vec F S1024x1x1536 .bf16) (ix3 r (0 : Fin 1) k) := by
  obtain ⟨e0, e1⟩ := idx0 t
  have e : ((cfg0.win 0).blk t).view.emb (ix2 r k : S1024x1536.Idx) = (ix2 r k : S1024x1536.Idx) := by
    funext a; apply Fin.ext
    match a with
    | ⟨0, _⟩ => show win0_0.index t (0 : Fin 2) * 1024 + 1 * r.val = r.val; omega
    | ⟨1, _⟩ => show win0_0.index t (1 : Fin 2) * 1536 + 1 * k.val = k.val; omega
  show (V m c main_v0 : Vec F S1024x1536 .bf16) (((cfg0.win 0).blk t).view.emb (ix2 r k : S1024x1536.Idx)) = _
  rw [e, V_v0]
  exact shapeCast_apply _ _ (ix2 r k) (ix3 r (0 : Fin 1) k) (by
    rw [Shape.rowMajor_val_two, Shape.rowMajor_val_three]; show (r.val * 1 + 0) * 1536 + k.val = r.val * 1536 + k.val; omega)

/-- The gain's block is the argument. -/
theorem block1 (c : Dev nD) (t : Fin cfg0.N) (k : Fin 1536) :
    (iblk m c 1 t : Vec F S1x1536 .f32) (ix2 (0 : Fin 1) k) = (m ((c : Thread nD τ).loc main_arg1) : Vec F S1536 .f32) (ix1 k) := by
  obtain ⟨e0, e1⟩ := idx1 t
  have e : ((cfg0.win 1).blk t).view.emb (ix2 (0 : Fin 1) k : S1x1536.Idx) = (ix2 (0 : Fin 1) k : S1x1536.Idx) := by
    funext a; apply Fin.ext
    match a with
    | ⟨0, _⟩ => show win0_1.index t (0 : Fin 2) * 1 + 1 * 0 = 0; omega
    | ⟨1, _⟩ => show win0_1.index t (1 : Fin 2) * 1536 + 1 * k.val = k.val; omega
  show (V m c main_v1 : Vec F S1x1536 .f32) (((cfg0.win 1).blk t).view.emb (ix2 (0 : Fin 1) k : S1x1536.Idx)) = _
  rw [e, V_v1]
  exact shapeCast_apply _ _ (ix2 (0 : Fin 1) k) (ix1 k) (by
    rw [Shape.rowMajor_val_two, Shape.rowMajor_val_one]; show k.val = 0 * 1536 + k.val; omega)

/-- Tile `t`'s weight bytes are rows `256 t …` of the argument. -/
theorem block2 (c : Dev nD) (t : Fin cfg0.N) (i : Fin 256) (q : Fin 768) :
    (iblk m c 2 t : Vec F S256x768 .i8) (ix2 i q) = (m ((c : Thread nD τ).loc main_arg2) : Vec F S8960x768 .i8)
      (ix2 (⟨256 * t.val + i.val, by have : t.val < 35 := lt_of_lt_of_eq t.isLt N_0; omega⟩ : Fin 8960) q) := by
  obtain ⟨e0, e1⟩ := idx2 t
  have e : ((cfg0.win 2).blk t).view.emb (ix2 i q : S256x768.Idx)
      = (ix2 (⟨256 * t.val + i.val, by have : t.val < 35 := lt_of_lt_of_eq t.isLt N_0; omega⟩ : Fin 8960) q : S8960x768.Idx) := by
    funext a; apply Fin.ext
    match a with
    | ⟨0, _⟩ => show win0_2.index t (0 : Fin 2) * 256 + 1 * i.val = 256 * t.val + i.val; omega
    | ⟨1, _⟩ => show win0_2.index t (1 : Fin 2) * 768 + 1 * q.val = q.val; omega
  show (V m c main_arg2 : Vec F S8960x768 .i8) (((cfg0.win 2).blk t).view.emb (ix2 i q : S256x768.Idx)) = _
  rw [e, V_main_arg2]

/-- Tile `t`'s weight scales are rows `256 t …` of the argument, transposed. -/
theorem block3 (c : Dev nD) (t : Fin cfg0.N) (g : Fin 48) (i : Fin 256) :
    (iblk m c 3 t : Vec F S48x256 .bf16) (ix2 g i) = (m ((c : Thread nD τ).loc main_arg3) : Vec F S8960x48 .bf16)
      (ix2 (⟨256 * t.val + i.val, by have : t.val < 35 := lt_of_lt_of_eq t.isLt N_0; omega⟩ : Fin 8960) g) := by
  obtain ⟨e0, e1⟩ := idx3 t
  have e : ((cfg0.win 3).blk t).view.emb (ix2 g i : S48x256.Idx)
      = (ix2 g (⟨256 * t.val + i.val, by have : t.val < 35 := lt_of_lt_of_eq t.isLt N_0; omega⟩ : Fin 8960) : S48x8960.Idx) := by
    funext a; apply Fin.ext
    match a with
    | ⟨0, _⟩ => show win0_3.index t (0 : Fin 2) * 48 + 1 * g.val = g.val; omega
    | ⟨1, _⟩ => show win0_3.index t (1 : Fin 2) * 256 + 1 * i.val = 256 * t.val + i.val; omega
  show (V m c main_v2 : Vec F S48x8960 .bf16) (((cfg0.win 3).blk t).view.emb (ix2 g i : S48x256.Idx)) = _
  rw [e, V_v2]
  exact transpose_apply _ _ _ _ (ix2 (⟨256 * t.val + i.val, by have : t.val < 35 := lt_of_lt_of_eq t.isLt N_0; omega⟩ : Fin 8960) g) (by
    intro a
    match a with
    | ⟨0, _⟩ => rfl
    | ⟨1, _⟩ => rfl)

end Cert.KernelIdeal.Hand

end
-- ==== Proof.Scales.lean ====
/- The scale of one row: the kernel's search for the exponent field, and the reference's logarithm, on extended reals.

   `PW e` is what the word `e * 2 ^ 23` denotes. The search finds the greatest `e` with `PW e ≤ t`; the reference takes
   `floor (log t / log 2) + 1`, at least `-126`. For `0 ≤ t < 2 ^ 126` both give one power of two. -/
module

public import Idealize.ShloMosaic.PureOps.Ideal.Laws

@[expose] public section

noncomputable section

namespace Cert.Scales

open Idealize.ShloMosaic

/-- What the word with exponent field `e` and nothing else denotes. -/
def PW (e : ℕ) : EReal := if e = 0 then 0 else if 255 ≤ e then ⊤ else (((2 : ℝ) ^ ((e : ℤ) - 127) : ℝ) : EReal)

theorem fields : ∀ e : Fin 256, ((BitVec.ofNat 32 (e.val * 8388608)).extractLsb' 31 1 == 1#1) = false
    ∧ ((BitVec.ofNat 32 (e.val * 8388608)).extractLsb' 23 8).toNat = e.val
    ∧ ((BitVec.ofNat 32 (e.val * 8388608)).extractLsb' 0 23).toNat = 0 := by decide +kernel

theorem ofBits_field (e : ℕ) (he : e < 256) : Ideal.ofBits .f32 (BitVec.ofNat 32 (e * 8388608)) = PW e := by
  obtain ⟨h1, h2, h3⟩ := fields ⟨e, he⟩
  dsimp only at h1 h2 h3
  unfold Ideal.ofBits Ideal.ieee PW
  simp only [h1]
  rw [h2, h3]
  clear h1 h2 h3
  by_cases h0 : e = 0
  · simp [h0]
  by_cases h255 : e = 255
  · simp [h255]
  have hlt : e < 255 := by omega
  rw [if_neg (show ¬e = 2 ^ 8 - 1 from h255), if_neg h0, if_neg h0, if_neg (not_le.mpr hlt)]
  rw [show ((e : ℤ) - 127) = 23 + ((e : ℤ) - (2 ^ (8 - 1) - 1) - (23 : ℕ)) by norm_num, zpow_add₀ (by norm_num)]
  norm_num [-EReal.coe_mul]

theorem PW_of_mid (e : ℕ) (h0 : e ≠ 0) (h : e < 255) : PW e = (((2 : ℝ) ^ ((e : ℤ) - 127) : ℝ) : EReal) := by
  unfold PW; rw [if_neg h0, if_neg (by omega)]

/-- One step of the search. -/
def bis (t : EReal) (step bits : BitVec 32) : BitVec 32 :=
  Scalar.select (Ideal.cmp .olt t (Ideal.ofBits .f32 (bits + step))) bits (bits + step)

theorem bis_step (t : EReal) (ht : t < ⊤) (n s : ℕ) (hs : 1 ≤ s) (hn : n + 2 * s ≤ 256) (h : PW n ≤ t) (h' : t < PW (n + 2 * s)) :
    ∃ n', bis t (BitVec.ofNat 32 (s * 8388608)) (BitVec.ofNat 32 (n * 8388608)) = BitVec.ofNat 32 (n' * 8388608)
      ∧ n' + s ≤ 256 ∧ PW n' ≤ t ∧ t < PW (n' + s) := by
  have e : BitVec.ofNat 32 (n * 8388608) + BitVec.ofNat 32 (s * 8388608) = BitVec.ofNat 32 ((n + s) * 8388608) := by
    rw [← BitVec.ofNat_add, ← Nat.add_mul]
  unfold bis
  rw [e, ofBits_field _ (by omega)]
  by_cases hc : t < PW (n + s)
  · refine ⟨n, ?_, by omega, h, hc⟩
    simp [Ideal.cmp, hc, Scalar.select]
  · refine ⟨n + s, ?_, by omega, not_lt.mp hc, by rw [Nat.add_assoc, ← Nat.two_mul]; exact h'⟩
    simp [Ideal.cmp, hc, Scalar.select]

/-- The search. -/
def expb (t : EReal) : BitVec 32 :=
  bis t 8388608#32 (bis t 16777216#32 (bis t 33554432#32 (bis t 67108864#32 (bis t 134217728#32 (bis t 268435456#32
    (bis t 536870912#32 (bis t 1073741824#32 0#32)))))))

theorem expb_spec (t : EReal) (h0 : 0 ≤ t) (ht : t < ⊤) :
    ∃ n, expb t = BitVec.ofNat 32 (n * 8388608) ∧ n + 1 ≤ 256 ∧ PW n ≤ t ∧ t < PW (n + 1) := by
  obtain ⟨n1, e1, b1, l1, u1⟩ := bis_step t ht 0 128 (by norm_num) (by norm_num) (by simpa [PW] using h0) (by simpa [PW] using ht)
  obtain ⟨n2, e2, b2, l2, u2⟩ := bis_step t ht n1 64 (by norm_num) b1 l1 u1
  obtain ⟨n3, e3, b3, l3, u3⟩ := bis_step t ht n2 32 (by norm_num) b2 l2 u2
  obtain ⟨n4, e4, b4, l4, u4⟩ := bis_step t ht n3 16 (by norm_num) b3 l3 u3
  obtain ⟨n5, e5, b5, l5, u5⟩ := bis_step t ht n4 8 (by norm_num) b4 l4 u4
  obtain ⟨n6, e6, b6, l6, u6⟩ := bis_step t ht n5 4 (by norm_num) b5 l5 u5
  obtain ⟨n7, e7, b7, l7, u7⟩ := bis_step t ht n6 2 (by norm_num) b6 l6 u6
  obtain ⟨n8, e8, b8, l8, u8⟩ := bis_step t ht n7 1 (by norm_num) b7 l7 u7
  refine ⟨n8, ?_, b8, l8, u8⟩
  rw [← e8, ← e7, ← e6, ← e5, ← e4, ← e3, ← e2, ← e1]; rfl

/-- The bits of the kernel's scale, from the row's largest magnitude over the format's largest value. -/
def sbits (t : EReal) : BitVec 32 :=
  Scalar.select (Ideal.cmp .oeq t (Ideal.ofBits .f32 0x00000000#32)) 1065353216#32 (expb t + 8388608#32)

/-- The reference's exponent, from the row's largest magnitude `a` and `t`, that over the format's largest value. -/
def eref (a t : EReal) : EReal :=
  Scalar.select (Ideal.cmp .oeq a (Ideal.ofBits .f32 0x00000000#32)) (Ideal.ofBits .f32 0x00000000#32)
    (max (Ideal.liftRound Int.floor (Ideal.div (Ideal.log t) (Ideal.log (Ideal.ofBits .f32 0x40000000#32))) + Ideal.ofBits .f32 0x3F800000#32)
      (Ideal.ofBits .f32 0xC2FC0000#32))

theorem lit_one : Ideal.ofBits .f32 0x3F800000#32 = ((1 : ℝ) : EReal) := by simp [Ideal.ofBits, Ideal.ieee, -EReal.coe_mul]; norm_num
theorem lit_two : Ideal.ofBits .f32 0x40000000#32 = ((2 : ℝ) : EReal) := by simp [Ideal.ofBits, Ideal.ieee, -EReal.coe_mul]; norm_num
theorem lit_m126 : Ideal.ofBits .f32 0xC2FC0000#32 = ((-126 : ℝ) : EReal) := by simp [Ideal.ofBits, Ideal.ieee, -EReal.coe_mul]; norm_num

theorem exp2_int (k : ℤ) : Ideal.exp2 (((k : ℝ) : ℝ) : EReal) = (((2 : ℝ) ^ k : ℝ) : EReal) := by
  show ((Real.rpow 2 (k : ℝ) : ℝ) : EReal) = _
  congr 1
  exact Real.rpow_intCast 2 k

/-- The logarithm to base two. -/
def lg (r : ℝ) : ℝ := Real.log r / Real.log 2

theorem log_two_pos : 0 < Real.log 2 := Real.log_pos (by norm_num)

theorem lg_lt (r : ℝ) (hr : 0 < r) (k : ℤ) (h : r < (2 : ℝ) ^ k) : lg r < (k : ℝ) := by
  unfold lg
  rw [div_lt_iff₀ log_two_pos, ← Real.log_zpow]
  exact Real.log_lt_log hr h

theorem le_lg (r : ℝ) (k : ℤ) (h : (2 : ℝ) ^ k ≤ r) : (k : ℝ) ≤ lg r := by
  unfold lg
  rw [le_div_iff₀ log_two_pos, ← Real.log_zpow]
  exact Real.log_le_log (zpow_pos (by norm_num) k) h

/-- The reference's exponent at a positive real. -/
theorem eref_pos (a : EReal) (ha : a ≠ 0) (r : ℝ) (hr : 0 < r) : eref a (r : EReal) = (((max (⌊lg r⌋ + 1) (-126) : ℤ) : ℝ) : EReal) := by
  unfold eref
  rw [Ideal.ofBits_zero_f32, lit_one, lit_two, lit_m126]
  have hl : Ideal.log (r : EReal) = ((Real.log r : ℝ) : EReal) := by
    show (if r ≤ 0 then (⊥ : EReal) else _) = _; rw [if_neg (not_le.mpr hr)]
  have hl2 : Ideal.log ((2 : ℝ) : EReal) = ((Real.log 2 : ℝ) : EReal) := by
    show (if (2 : ℝ) ≤ 0 then (⊥ : EReal) else _) = _; rw [if_neg (by norm_num)]
  have h2 : Real.log 2 ≠ 0 := by have := Real.log_pos (by norm_num : (1 : ℝ) < 2); linarith
  rw [hl, hl2]
  have hd : Ideal.div ((Real.log r : ℝ) : EReal) ((Real.log 2 : ℝ) : EReal) = ((lg r : ℝ) : EReal) := by
    unfold Ideal.div
    rw [if_neg (by exact_mod_cast h2), ← EReal.coe_inv, ← EReal.coe_mul]
    rfl
  rw [hd]
  have hc : Ideal.cmp .oeq a 0 = 0#1 := by simp [Ideal.cmp, ha]
  rw [hc]
  show max ((((⌊lg r⌋ : ℤ) : ℝ) : EReal) + ((1 : ℝ) : EReal)) ((-126 : ℝ) : EReal) = _
  rw [← EReal.coe_add, ← EReal.coe_strictMono.monotone.map_max]
  push_cast
  rfl

theorem sbits_zero : sbits 0 = BitVec.ofNat 32 (127 * 8388608) := by
  have h : Ideal.cmp .oeq 0 (Ideal.ofBits .f32 0x00000000#32) = 1#1 := by rw [Ideal.ofBits_zero_f32]; simp [Ideal.cmp]
  unfold sbits; rw [h]; decide +kernel

theorem eref_zero : eref 0 0 = 0 := by
  have h : Ideal.cmp .oeq 0 (Ideal.ofBits .f32 0x00000000#32) = 1#1 := by rw [Ideal.ofBits_zero_f32]; simp [Ideal.cmp]
  unfold eref; rw [h, Ideal.ofBits_zero_f32]; exact if_pos rfl

theorem sub_zero_bits : (2130706432#32 - BitVec.ofNat 32 (127 * 8388608)) = BitVec.ofNat 32 (127 * 8388608) := by decide +kernel

theorem sub_bits (n : ℕ) (h : n < 253) : 2130706432#32 - BitVec.ofNat 32 ((n + 1) * 8388608) = BitVec.ofNat 32 ((253 - n) * 8388608) := by
  have : ∀ n : Fin 253, 2130706432#32 - BitVec.ofNat 32 ((n.val + 1) * 8388608) = BitVec.ofNat 32 ((253 - n.val) * 8388608) := by decide +kernel
  exact this ⟨n, h⟩

theorem sbits_pos (t : EReal) (ht : t ≠ 0) (n : ℕ) (hn : expb t = BitVec.ofNat 32 (n * 8388608)) : sbits t = BitVec.ofNat 32 ((n + 1) * 8388608) := by
  have h : Ideal.cmp .oeq t (Ideal.ofBits .f32 0x00000000#32) = 0#1 := by rw [Ideal.ofBits_zero_f32]; simp [Ideal.cmp, ht]
  unfold sbits
  rw [h, hn, Nat.add_mul, Nat.one_mul, BitVec.ofNat_add]
  exact if_neg (by decide)

/-- The kernel's scale and its reciprocal are the reference's powers of two. -/
theorem scale_eq (a t : EReal) (h0 : 0 ≤ t) (ht : t < (((2 : ℝ) ^ (126 : ℤ) : ℝ) : EReal)) (hz : a = 0 ↔ t = 0) :
    Ideal.ofBits .f32 (sbits t) = Ideal.exp2 (eref a t)
      ∧ Ideal.ofBits .f32 (2130706432#32 - sbits t) = Ideal.exp2 (Ideal.ofBits .f32 0x00000000#32 - eref a t) := by
  by_cases htz : t = 0
  · have ha := hz.mpr htz
    subst htz; subst ha
    rw [sbits_zero, eref_zero, Ideal.ofBits_zero_f32]
    rw [sub_zero_bits, ofBits_field _ (by norm_num), PW_of_mid _ (by norm_num) (by norm_num)]
    have h1 : Ideal.exp2 (0 : EReal) = (((2 : ℝ) ^ (0 : ℤ) : ℝ) : EReal) := by
      have := exp2_int 0; simpa using this
    rw [sub_zero, h1]
    norm_num
  · have ha : a ≠ 0 := fun h => htz (hz.mp h)
    have htop : t < ⊤ := lt_of_lt_of_le ht le_top
    obtain ⟨n, hn, hb, hl, hu⟩ := expb_spec t h0 htop
    lift t to ℝ using ⟨ne_of_lt htop, fun h => by rw [h] at h0; exact absurd h0 (by simp)⟩
    have hr : 0 < t := by
      have : 0 ≤ t := by exact_mod_cast h0
      rcases this.lt_or_eq with h | h
      · exact h
      · exact absurd (by rw [← h]; rfl) htz
    rw [eref_pos a ha t hr]
    have hs := sbits_pos (t : EReal) htz n hn
    have ht' : t < (2 : ℝ) ^ (126 : ℤ) := by exact_mod_cast ht
    have hn253 : n < 253 := by
      by_contra hge
      have hge : 253 ≤ n := by omega
      rcases Nat.lt_or_ge n 255 with h | h
      · rw [PW_of_mid n (by omega) h] at hl
        have hl' : (2 : ℝ) ^ ((n : ℤ) - 127) ≤ t := by exact_mod_cast hl
        have : (2 : ℝ) ^ (126 : ℤ) ≤ (2 : ℝ) ^ ((n : ℤ) - 127) := zpow_le_zpow_right₀ (by norm_num) (by omega)
        linarith
      · unfold PW at hl; rw [if_neg (by omega), if_pos h] at hl
        exact absurd hl (not_le.mpr htop)
    have hmax : max (⌊lg t⌋ + 1) (-126) = (n : ℤ) - 126 := by
      rw [PW_of_mid _ (by omega) (by omega)] at hu
      have hu' : t < (2 : ℝ) ^ (((n + 1 : ℕ) : ℤ) - 127) := by exact_mod_cast hu
      have hup : lg t < ((n : ℤ) - 126 : ℤ) := by
        refine lg_lt t hr _ (lt_of_lt_of_eq hu' ?_)
        congr 1; push_cast; ring
      have hfl : ⌊lg t⌋ < (n : ℤ) - 126 := Int.floor_lt.mpr hup
      by_cases hn0 : n = 0
      · subst hn0; push_cast at *; omega
      · rw [PW_of_mid n hn0 (by omega)] at hl
        have hl' : (2 : ℝ) ^ ((n : ℤ) - 127) ≤ t := by exact_mod_cast hl
        have hlo : (((n : ℤ) - 127 : ℤ) : ℝ) ≤ lg t := le_lg t _ hl'
        have : (n : ℤ) - 127 ≤ ⌊lg t⌋ := Int.le_floor.mpr hlo
        omega
    rw [hmax, hs, exp2_int, ofBits_field _ (by omega), PW_of_mid _ (by omega) (by omega), Ideal.ofBits_zero_f32]
    refine ⟨by congr 2; push_cast; ring, ?_⟩
    have hsub := sub_bits n hn253
    rw [hsub, ofBits_field _ (by omega), PW_of_mid _ (by omega) (by omega)]
    rw [show (0 : EReal) - (((((n : ℤ) - 126 : ℤ)) : ℝ) : EReal) = ((((126 - (n : ℤ) : ℤ)) : ℝ) : EReal) by
      rw [← EReal.coe_zero, ← EReal.coe_sub]; congr 1; push_cast; ring]
    rw [exp2_int]
    congr 2
    have : n ≤ 253 := by omega
    push_cast [Nat.cast_sub this]
    ring

end Cert.Scales

end
-- ==== Proof.Quant.lean ====
/- The quantiser of one block at an index, on extended reals: each row's scale and codes in terms of the row's largest
   magnitude. -/
module

public import Idealize.ShloMosaic.Lib.ValueIdx
public import Idealize.ShloMosaic.Lib.Pipeline.Value
public import Idealize.ShloMosaic.Lib.Pointwise.ElementwiseCore
public import proofs.«01_k».proof.Proof.Scales
public import proofs.«01_k».proof.Proof.Vocab

@[expose] public section

set_option maxRecDepth 16384

noncomputable section

namespace Cert.KernelIdeal.Hand

open Idealize.ShloMosaic Idealize.SL.Sem
open Idealize.ShloMosaic.ValueIdx
open Cert.KernelIdeal.Gen

/-- The largest magnitude of 128 values. -/
def rowmax (f : Fin 128 → EReal) : EReal :=
  (Finset.univ : Finset (Fin 128)).fold max (Ideal.ofBits .f32 0xFF800000#32) (fun k => max (f k) (-(f k)))

/-- That over the format's largest value. -/
def tval (f : Fin 128 → EReal) : EReal := rowmax f * Ideal.ofBits .f32 0x3B124925#32

theorem TT_apply (hb : FVec Ideal S128x128 .f32) (i j : Fin 128) :
    TT hb (ix2 i j) = tval (fun k => hb (ix2 i k)) := by
  unfold TT
  have e : ∀ (v : FVec Ideal S128x1 .f32) (h : S128x1.Broadcasts S128x128), broadcastTo S128x128 v h (ix2 i j) = v (ix2 i (0 : Fin 1)) := by
    intro v h
    refine broadcastTo_apply _ _ _ _ fun a => ?_
    match a with
    | ⟨0, _⟩ => rfl
    | ⟨1, _⟩ => rfl
  rw [ValueIdx.mulf_apply, e, shapeCast_apply _ _ (ix2 i (0 : Fin 1)) (ix2 i (0 : Fin 1)) rfl,
    shapeCast_apply _ _ (ix2 i (0 : Fin 1)) (ix1 i) (by rw [Shape.rowMajor_val_one, Shape.rowMajor_val_two]; show i.val = i.val * 1 + 0; omega)]
  unfold tval rowmax
  refine congrArg₂ (fun a b : EReal => a * b) ((Ideal.multiReduction_maximumf_single (absf hb) _ _ _ _ (ix1 i)).trans ?_) rfl
  refine Finset.fold_congr fun k _ => ?_
  have : reduces_S128x128_S128.lift (ix1 i) k = ix2 i k := by
    funext a; match a with | ⟨0, _⟩ => rfl | ⟨1, _⟩ => rfl
  rw [Function.comp_apply, this]
  rfl

theorem BIS_apply (t : FVec Ideal S128x128 .f32) (step : BitVec 32) (bits : IVec S128x128 32) (y : S128x128.Idx) :
    BIS t step bits y = Scales.bis (t y) step (bits y) := rfl

theorem EXPB_apply (t : FVec Ideal S128x128 .f32) (y : S128x128.Idx) : EXPB t y = Scales.expb (t y) := by
  unfold EXPB Scales.expb
  rw [BIS_apply, BIS_apply, BIS_apply, BIS_apply, BIS_apply, BIS_apply, BIS_apply, BIS_apply, ValueIdx.broadcast_apply]

theorem SB_def (hb : FVec Ideal S128x128 .f32) (y : S128x128.Idx) :
    SB hb y = Scalar.select (Ideal.cmp .oeq (TT hb y) (Ideal.ofBits .f32 0#32)) 1065353216#32 (EXPB (TT hb) y + 8388608#32) := by
  unfold SB
  generalize EXPB (TT hb) = e
  generalize TT hb = t
  rfl

theorem SB_apply (hb : FVec Ideal S128x128 .f32) (i j : Fin 128) :
    SB hb (ix2 i j) = Scales.sbits (tval (fun k => hb (ix2 i k))) := by
  rw [SB_def, EXPB_apply, TT_apply, Scales.sbits]

theorem QC_def (hb : FVec Ideal S128x128 .f32) (y : S128x128.Idx) :
    QC hb y = min (Ideal.ofBits .f32 0x43E00000#32) (max (Ideal.ofBits .f32 0xC3E00000#32)
      (hb y * Ideal.ofBits .f32 (2130706432#32 - SB hb y))) := by
  unfold QC
  generalize SB hb = e
  generalize 2130706432#32 = n
  generalize 0x43E00000#32 = p
  generalize 0xC3E00000#32 = p'
  rw [truncf_apply, ValueIdx.minimumf_apply, ValueIdx.maximumf_apply, ValueIdx.mulf_apply]
  rfl

/-- The code of an element. -/
theorem QC_apply (hb : FVec Ideal S128x128 .f32) (i j : Fin 128) :
    QC hb (ix2 i j) = min (Ideal.ofBits .f32 0x43E00000#32) (max (Ideal.ofBits .f32 0xC3E00000#32)
      (hb (ix2 i j) * Ideal.ofBits .f32 (2130706432#32 - Scales.sbits (tval (fun k => hb (ix2 i k)))))) := by
  rw [QC_def, SB_apply]

/-! ## The scales along the lanes -/

/-- Floor division of a word, as `FDIV` does it in each lane. -/
def fdivw (x n : BitVec 32) : BitVec 32 :=
  Scalar.select (IntOp.andi
      (IntOp.cmpi .ne (IntOp.subi ((IntOp.cmpi .sgt x 0#32).setWidth 32) ((IntOp.cmpi .slt x 0#32).setWidth 32))
        (Scalar.subi (Scalar.extui (Scalar.cmpi .sgt n 0#32)) (Scalar.extui (Scalar.cmpi .slt n 0#32))))
      (IntOp.cmpi .ne (IntOp.remsi .vector x n) 0#32))
    (IntOp.subi (IntOp.divsi .vector x n) 1#32) (IntOp.divsi .vector x n)

theorem FDIV_apply {s : Shape} (x : IVec s 32) (n : BitVec 32) (y : s.Idx) : FDIV x n y = fdivw (x y) n := rfl

/-- Floor remainder of a word, as `FMOD` does it in each lane. -/
def fmodw (x n : BitVec 32) : BitVec 32 :=
  Scalar.select (IntOp.andi
      (IntOp.xori (IntOp.cmpi .slt (IntOp.remsi .vector x (Scalar.select (Scalar.cmpi .eq n 0#32) 1#32 n)) 0#32)
        (Scalar.cmpi .slt (Scalar.select (Scalar.cmpi .eq n 0#32) 1#32 n) 0#32))
      (IntOp.cmpi .ne (IntOp.remsi .vector x (Scalar.select (Scalar.cmpi .eq n 0#32) 1#32 n)) 0#32))
    (IntOp.addi (IntOp.remsi .vector x (Scalar.select (Scalar.cmpi .eq n 0#32) 1#32 n)) (Scalar.select (Scalar.cmpi .eq n 0#32) 1#32 n))
    (IntOp.remsi .vector x (Scalar.select (Scalar.cmpi .eq n 0#32) 1#32 n))

theorem FMOD_apply {s : Shape} (hb : s.Broadcasts s) (x : IVec s 32) (n : BitVec 32) (y : s.Idx) :
    FMOD hb x n y = fmodw (x y) n := rfl

theorem lane_words : ∀ l : Fin 128, fdivw (BitVec.ofNat 32 l.val) 8#32 = BitVec.ofNat 32 (l.val / 8)
    ∧ fmodw (BitVec.ofNat 32 l.val) 8#32 = BitVec.ofNat 32 (l.val % 8) := by decide +kernel

theorem LANE_apply (s : Fin 8) (l : Fin 128) : LANE (ix2 s l) = BitVec.ofNat 32 l.val := iota_single_apply _ _ _ _ _ _
theorem SUB_apply (s : Fin 8) (l : Fin 128) : SUB (ix2 s l) = BitVec.ofNat 32 s.val := iota_single_apply _ _ _ _ _ _

theorem word_ne {a b : ℕ} (ha : a < 4294967296) (hb : b < 4294967296) (h : a ≠ b) : BitVec.ofNat 32 a ≠ BitVec.ofNat 32 b := fun e => h (by
  have e' := congrArg BitVec.toNat e
  rw [BitVec.toNat_ofNat, BitVec.toNat_ofNat] at e'
  omega)

theorem select_eq_word {α : Type} (a b : ℕ) (ha : a < 4294967296) (hb : b < 4294967296) (x y : α) :
    Scalar.select (IntOp.cmpi .eq (BitVec.ofNat 32 a) (BitVec.ofNat 32 b)) x y = if a = b then x else y := by
  by_cases h : a = b
  · subst h; simp [IntOp.cmpi, Scalar.select]
  · have := word_ne ha hb h
    rw [if_neg h]
    unfold IntOp.cmpi Scalar.select
    dsimp only
    rw [show (BitVec.ofNat 32 a == BitVec.ofNat 32 b) = false from beq_eq_false_iff_ne.mpr this]
    rfl

theorem SEL_apply (v : ℕ) (hv : v < 16) (rows acc : IVec S8x128 32) (s : Fin 8) (l : Fin 128) :
    SEL (BitVec.ofNat 32 v) rows acc (ix2 s l) = if l.val / 8 = v then rows (ix2 s l) else acc (ix2 s l) := by
  show Scalar.select (IntOp.cmpi .eq (FDIV LANE 8#32 (ix2 s l)) (BitVec.ofNat 32 v)) (rows (ix2 s l)) (acc (ix2 s l)) = _
  rw [FDIV_apply, LANE_apply, (lane_words l).1, select_eq_word _ _ (by omega) (by omega)]

theorem ACC_apply (sb : IVec S128x128 32) (s : Fin 8) (l : Fin 128) :
    ACC sb (ix2 s l) = sb (ix2 (⟨8 * (l.val / 8) + s.val, by omega⟩ : Fin 128) l) := by
  let G : ℕ → BitVec 32 := fun v => if h : 8 * v + s.val < 128 then sb (ix2 (⟨8 * v + s.val, h⟩ : Fin 128) l) else 0
  have e : ∀ (v : ℕ) (hv : v < 16) (h : S128x128.Slices ![8 * v, 0] S8x128),
      extractStridedSlice S8x128 ![8 * v, 0] sb h (ix2 s l) = G v := by
    intro v hv h
    have hlt : 8 * v + s.val < 128 := by omega
    show _ = dite _ _ _
    rw [dif_pos hlt]
    refine extractStridedSlice_apply _ _ _ _ _ fun a => ?_
    match a with
    | ⟨0, _⟩ => rfl
    | ⟨1, _⟩ => show l.val = 0 + l.val; omega
  have goal : ACC sb (ix2 s l) = G (l.val / 8) := by
    unfold ACC
    rw [SEL_apply 15 (by norm_num), SEL_apply 14 (by norm_num), SEL_apply 13 (by norm_num), SEL_apply 12 (by norm_num),
      SEL_apply 11 (by norm_num), SEL_apply 10 (by norm_num), SEL_apply 9 (by norm_num), SEL_apply 8 (by norm_num),
      SEL_apply 7 (by norm_num), SEL_apply 6 (by norm_num), SEL_apply 5 (by norm_num), SEL_apply 4 (by norm_num),
      SEL_apply 3 (by norm_num), SEL_apply 2 (by norm_num), SEL_apply 1 (by norm_num)]
    rw [e 15 (by norm_num), e 14 (by norm_num), e 13 (by norm_num), e 12 (by norm_num), e 11 (by norm_num), e 10 (by norm_num),
      e 9 (by norm_num), e 8 (by norm_num), e 7 (by norm_num), e 6 (by norm_num), e 5 (by norm_num), e 4 (by norm_num),
      e 3 (by norm_num), e 2 (by norm_num), e 1 (by norm_num), e 0 (by norm_num)]
    have hq : l.val / 8 < 16 := by omega
    generalize l.val / 8 = q at hq
    interval_cases q <;> rfl
  rw [goal]
  show dite _ _ _ = _
  rw [dif_pos]

/-- The scale of row `l`, in lane `l`. -/
theorem QS_apply (hb : FVec Ideal S128x128 .f32) (l : Fin 128) :
    QS hb (ix3 (0 : Fin 1) (0 : Fin 1) l) = Ideal.ofBits .f32 (Scales.sbits (tval (fun k => hb (ix2 l k)))) := by
  unfold QS
  rw [shapeCast_apply _ _ (ix3 (0 : Fin 1) (0 : Fin 1) l) (ix2 (0 : Fin 1) l)
      (by rw [Shape.rowMajor_val_two, Shape.rowMajor_val_three]; show 0 * 128 + l.val = (0 * 1 + 0) * 128 + l.val; omega),
    shapeCast_apply _ _ (ix2 (0 : Fin 1) l) (ix1 l) (by rw [Shape.rowMajor_val_one, Shape.rowMajor_val_two]; show l.val = 0 * 128 + l.val; omega)]
  refine (Ideal.multiReduction_add_single _ _ _ _ _ (ix1 l)).trans ?_
  have h8 : ∀ k : Fin 8, reduces_S8x128_S128.lift (ix1 l) k = ix2 k l := by
    intro k; funext a; match a with | ⟨0, _⟩ => rfl | ⟨1, _⟩ => rfl
  have step : ∀ k : Fin 8, select (cmpi .eq (FMOD broadcasts_S8x128_S8x128 LANE 8#32) SUB) (bitcastToFloat (F := Ideal) .f32 (ACC (SB hb)))
        (broadcast S8x128 (Scalar.ofBits (F := Ideal) .f32 0x00000000#32)) (reduces_S8x128_S128.lift (ix1 l) k)
      = if l.val % 8 = k.val then Ideal.ofBits .f32 (Scales.sbits (tval (fun k => hb (ix2 l k)))) else 0 := by
    intro k
    rw [h8]
    show Scalar.select (IntOp.cmpi .eq (FMOD broadcasts_S8x128_S8x128 LANE 8#32 (ix2 k l)) (SUB (ix2 k l)))
      (Ideal.ofBits .f32 (ACC (SB hb) (ix2 k l))) (Ideal.ofBits .f32 0x00000000#32) = _
    rw [FMOD_apply, LANE_apply, (lane_words l).2, SUB_apply, select_eq_word _ _ (by omega) (by omega), ACC_apply, SB_apply]
    rw [Ideal.ofBits_zero_f32]
    by_cases hk : l.val % 8 = k.val
    · rw [if_pos hk, if_pos hk]
      have : (⟨8 * (l.val / 8) + k.val, by omega⟩ : Fin 128) = l := Fin.ext (by show 8 * (l.val / 8) + k.val = l.val; omega)
      rw [this]
    · rw [if_neg hk, if_neg hk]
  have fin : ∀ E : EReal, (∑ k : Fin 8, if l.val % 8 = k.val then E else 0) = E := by
    intro E
    rw [Finset.sum_eq_single (⟨l.val % 8, by omega⟩ : Fin 8)]
    · rw [if_pos rfl]
    · intro b _ hb'
      rw [if_neg fun e => hb' (Fin.ext e.symm)]
    · intro h; exact absurd (Finset.mem_univ _) h
  exact (Finset.sum_congr rfl fun k _ => step k).trans (fin _)

end Cert.KernelIdeal.Hand

end
-- ==== Proof.Weights.lean ====
/- The dequantised weights of a tile, and the tile's product, at an index, on extended reals. -/
module

public import Idealize.ShloMosaic.Lib.Pointwise.Contract
public import proofs.«01_k».proof.Proof.Quant
public import proofs.«01_k».proof.Proof.Tile

@[expose] public section

set_option maxRecDepth 16384

noncomputable section

namespace Cert.KernelIdeal.Hand

open Idealize.ShloMosaic Idealize.SL.Sem
open Cert.KernelIdeal.Gen

/-- The low field of a byte, less the zero point. -/
def qlo (w : BitVec 8) : EReal := (((w.toNat % 16 : ℕ) : ℝ) : EReal) - Ideal.ofBits .bf16 0x4100#16
/-- The high field of a byte, less the zero point. -/
def qhi (w : BitVec 8) : EReal := (((w.toNat / 16 : ℕ) : ℝ) : EReal) - Ideal.ofBits .bf16 0x4100#16

theorem field_words : ∀ w : BitVec 8, (IntOp.andi w 15#8).toNat = w.toNat % 16
    ∧ ((IntOp.shrsi .vector (w.setWidth 32) 4#32).setWidth 8).toNat = w.toNat / 16 := by decide +kernel

theorem DQLO_apply (w : Vec Ideal S128x128 .i8) (s : FVec Ideal S128x128 .bf16) (y : S128x128.Idx) :
    DQLO w s y = qlo (w y) * s y := by
  unfold DQLO qlo
  rw [ValueIdx.mulf_apply, ValueIdx.subf_apply, ← (field_words (w y)).1]
  rfl

theorem DQHI_apply (w : Vec Ideal S128x128 .i8) (s : FVec Ideal S128x128 .bf16) (y : S128x128.Idx) :
    DQHI w s y = qhi (w y) * s y := by
  unfold DQHI qhi
  rw [ValueIdx.mulf_apply, ValueIdx.subf_apply, ← (field_words (w y)).2]
  rfl

theorem DQ16_apply (s : Vec Ideal S1x128 .bf16) (i : Fin 16) (n : Fin 128) : DQ16 s (ValueIdx.ix2 i n) = s (ValueIdx.ix2 (0 : Fin 1) n) := by
  unfold DQ16
  rw [broadcastTo_apply _ _ (ValueIdx.ix2 i n) (ValueIdx.ix2 (0 : Fin 1) n) (by
      intro a
      match a with
      | ⟨0, _⟩ => rfl
      | ⟨1, _⟩ => rfl),
    shapeCast_apply _ _ (ValueIdx.ix2 (0 : Fin 1) n) (ValueIdx.ix2 (0 : Fin 1) n) rfl, shapeCast_apply _ _ (ValueIdx.ix2 (0 : Fin 1) n) (ValueIdx.ix2 (0 : Fin 1) n) rfl]

theorem DQS_apply (s : Fin 8 → Vec Ideal S1x128 .bf16) (n l : Fin 128) :
    DQS (s 0) (s 1) (s 2) (s 3) (s 4) (s 5) (s 6) (s 7) (ValueIdx.ix2 n l) = s ⟨l.val / 16, by omega⟩ (ValueIdx.ix2 (0 : Fin 1) n) := by
  unfold DQS
  rw [transpose_apply _ _ _ (ValueIdx.ix2 n l) (ValueIdx.ix2 l n) (by
    intro b
    match b with
    | ⟨0, _⟩ => rfl
    | ⟨1, _⟩ => rfl)]
  refine (concatenate_ofFn_apply (t := S128x128) (s₁ := S16x128) 0 (fun k : Fin 8 => DQ16 (s k))
    concatenates_S16x128_S16x128_S16x128_S16x128_S16x128_S16x128_S16x128_S16x128_S128x128_d0 rfl 16 rfl (ValueIdx.ix2 l n)
    ⟨l.val / 16, by omega⟩ rfl (ValueIdx.ix2 (⟨l.val % 16, by omega⟩ : Fin 16) n) rfl ?_).trans (DQ16_apply _ _ _)
  intro b hb
  match b with
  | ⟨0, _⟩ => exact absurd rfl hb
  | ⟨1, _⟩ => rfl

/-- Piece `k` of the dequantised weights of 128 output columns. -/
def WP (w : Fin 6 → Vec Ideal S128x128 .i8) (s : Fin 6 → FVec Ideal S128x128 .bf16) (k : Fin 12) : FVec Ideal S128x128 .bf16 :=
  if k.val % 2 = 0 then DQLO (w ⟨k.val / 2, by omega⟩) (s ⟨k.val / 2, by omega⟩) else DQHI (w ⟨k.val / 2, by omega⟩) (s ⟨k.val / 2, by omega⟩)

theorem WROW_apply (w : Fin 6 → Vec Ideal S128x128 .i8) (s : Fin 6 → FVec Ideal S128x128 .bf16) (n : Fin 128) (k : Fin 1536) :
    WROW w s (ValueIdx.ix2 n k) = WP w s ⟨k.val / 128, by omega⟩ (ValueIdx.ix2 n (⟨k.val % 128, by omega⟩ : Fin 128)) := by
  unfold WROW
  refine concatenate_ofFn_apply (t := S128x1536) (s₁ := S128x128) 1 (fun k : Fin 12 => WP w s k)
    concatenates_S128x128_S128x128_S128x128_S128x128_S128x128_S128x128_S128x128_S128x128_S128x128_S128x128_S128x128_S128x128_S128x1536_d1 rfl 128 rfl (ValueIdx.ix2 n k)
    ⟨k.val / 128, by omega⟩ rfl (ValueIdx.ix2 n (⟨k.val % 128, by omega⟩ : Fin 128)) rfl ?_
  intro b hb
  match b with
  | ⟨0, _⟩ => rfl
  | ⟨1, _⟩ => exact absurd rfl hb

theorem WBLK_apply (x2 : Vec Ideal S256x768 .i8) (o : Fin 2) (b : Fin 6) (n l : Fin 128) :
    WBLK x2 o b (ValueIdx.ix2 n l) = x2 (ValueIdx.ix2 (⟨128 * o.val + n.val, by omega⟩ : Fin 256) (⟨128 * b.val + l.val, by omega⟩ : Fin 768)) := by
  unfold WBLK View.ld
  refine congrArg x2 (funext fun a => Fin.ext ?_)
  match a with
  | ⟨0, _⟩ => show 128 * o.val + 1 * n.val = 128 * o.val + n.val; omega
  | ⟨1, _⟩ => show 128 * b.val + 1 * l.val = 128 * b.val + l.val; omega

theorem SROW_apply (x3 : Vec Ideal S48x256 .bf16) (o : Fin 2) (g : Fin 48) (n : Fin 128) :
    SROW x3 o g (ValueIdx.ix2 (0 : Fin 1) n) = x3 (ValueIdx.ix2 g (⟨128 * o.val + n.val, by omega⟩ : Fin 256)) := by
  unfold SROW View.ld
  refine congrArg x3 (funext fun a => Fin.ext ?_)
  match a with
  | ⟨0, _⟩ => rfl
  | ⟨1, _⟩ => show 128 * o.val + 1 * n.val = 128 * o.val + n.val; omega

theorem SBLK_apply (x3 : Vec Ideal S48x256 .bf16) (o : Fin 2) (b : Fin 6) (n l : Fin 128) :
    SBLK x3 o b (ValueIdx.ix2 n l) = x3 (ValueIdx.ix2 (⟨8 * b.val + l.val / 16, by omega⟩ : Fin 48) (⟨128 * o.val + n.val, by omega⟩ : Fin 256)) := by
  unfold SBLK
  refine (DQS_apply (fun k : Fin 8 => SROW x3 o ⟨8 * b.val + k.val, by omega⟩) n l).trans ?_
  exact SROW_apply _ _ _ _

/-- Column `k` of the dequantised weights of output column `c`. -/
def WV (x2 : Vec Ideal S256x768 .i8) (x3 : Vec Ideal S48x256 .bf16) (c : Fin 256) (k : Fin 1536) : EReal :=
  (if k.val / 128 % 2 = 0 then qlo (x2 (ValueIdx.ix2 c (⟨128 * (k.val / 256) + k.val % 128, by omega⟩ : Fin 768)))
    else qhi (x2 (ValueIdx.ix2 c (⟨128 * (k.val / 256) + k.val % 128, by omega⟩ : Fin 768))))
    * x3 (ValueIdx.ix2 (⟨8 * (k.val / 256) + k.val % 128 / 16, by omega⟩ : Fin 48) c)

theorem WTILE_apply (x2 : Vec Ideal S256x768 .i8) (x3 : Vec Ideal S48x256 .bf16) (o : Fin 2) (n : Fin 128) (k : Fin 1536) :
    WTILE x2 x3 o (ValueIdx.ix2 n k) = WV x2 x3 ⟨128 * o.val + n.val, by omega⟩ k := by
  have hd : k.val / 128 / 2 = k.val / 256 := by omega
  unfold WTILE WV
  rw [WROW_apply]
  unfold WP
  by_cases h : k.val / 128 % 2 = 0
  · rw [if_pos h, if_pos h, DQLO_apply, WBLK_apply, SBLK_apply]
    simp only [hd]
  · rw [if_neg h, if_neg h, DQHI_apply, WBLK_apply, SBLK_apply]
    simp only [hd]

/-- The product of a tile: row `r` of the permuted rows with the weights of column `c`. -/
theorem HT_apply (xn : Vec Ideal S1024x1536 .bf16) (x2 : Vec Ideal S256x768 .i8) (x3 : Vec Ideal S48x256 .bf16) (r : Fin 1024) (c : Fin 256) :
    HT xn x2 x3 (ValueIdx.ix2 r c) = ∑ k : Fin 1536, xn (ValueIdx.ix2 r k) * WV x2 x3 c k := by
  unfold HT HH
  refine (Ideal.matmul_apply₁_of dot_S1024x1536_S256x1536_S1024x256_1_1_0_0_n_n (a := 1) rfl (K := 1536) rfl _ _ _ (ValueIdx.ix2 r c)
    (fun k => ValueIdx.ix2 r k) (fun k => ValueIdx.ix2 c k) ?_ ?_).trans ?_
  · intro k; funext a
    match a with
    | ⟨0, _⟩ => rfl
    | ⟨1, _⟩ => rfl
  · intro k; funext a
    match a with
    | ⟨0, _⟩ => rfl
    | ⟨1, _⟩ => rfl
  rw [show constant (F := Ideal) S1024x256 .f32 0x00000000#32 (ValueIdx.ix2 r c) = 0 from Ideal.ofBits_zero_f32, zero_add]
  refine Finset.sum_congr rfl fun k _ => congrArg (fun z : EReal => xn (ValueIdx.ix2 r k) * z) ?_
  by_cases hc : c.val < 128
  · refine (concatenate_pair_apply_left (t := S256x1536) (s₁ := S128x1536) (s₂ := S128x1536) 0 _ _ _ (ValueIdx.ix2 c k) rfl (ValueIdx.ix2 (⟨c.val, hc⟩ : Fin 128) k) ?_).trans ?_
    · intro b
      match b with
      | ⟨0, _⟩ => rfl
      | ⟨1, _⟩ => rfl
    · rw [WTILE_apply]
      exact congrArg (fun z => WV x2 x3 z k) (Fin.ext (by show 128 * 0 + c.val = c.val; omega))
  · refine (concatenate_pair_apply_right (t := S256x1536) (s₁ := S128x1536) (s₂ := S128x1536) 0 _ _ _ (ValueIdx.ix2 c k) rfl rfl (ValueIdx.ix2 (⟨c.val - 128, by omega⟩ : Fin 128) k) ?_ ?_).trans ?_
    · intro b hb
      match b with
      | ⟨0, _⟩ => exact absurd rfl hb
      | ⟨1, _⟩ => rfl
    · show c.val - 128 + 128 = c.val; omega
    · rw [WTILE_apply]
      exact congrArg (fun z => WV x2 x3 z k) (Fin.ext (by show 128 * 1 + (c.val - 128) = c.val; omega))

end Cert.KernelIdeal.Hand

end
-- ==== Proof.Rows.lean ====
/- The normalised rows and their permutation at an index, on extended reals. -/
module

public import proofs.«01_k».proof.Proof.Quant
public import proofs.«01_k».proof.Proof.Fills

@[expose] public section

set_option maxRecDepth 16384

noncomputable section

namespace Cert.KernelIdeal.Hand

open Idealize.ShloMosaic Idealize.SL.Sem
open Cert.KernelIdeal.Gen

/-- Element `k` of a row, normalised and scaled by the gain. -/
def nval (x g : Fin 1536 → EReal) (k : Fin 1536) : EReal :=
  x k * Ideal.rsqrt ((∑ j : Fin 1536, x j * x j) * ((1 / 1536 : ℝ) : EReal) + Ideal.ofBits .f32 0x358637BD#32) * g k

theorem NORM_apply (x : Vec Ideal S64x1536 .bf16) (g : Vec Ideal S1x1536 .f32) (r : Fin 64) (k : Fin 1536) :
    NORM x g (ValueIdx.ix2 r k) = nval (fun j => x (ValueIdx.ix2 r j)) (fun j => g (ValueIdx.ix2 (0 : Fin 1) j)) k := by
  unfold NORM k0_pay2
  dsimp only
  have e : ∀ (v : FVec Ideal S64x1 .f32), broadcastTo S64x1536 v broadcasts_S64x1_S64x1536 (ValueIdx.ix2 r k) = v (ValueIdx.ix2 r (0 : Fin 1)) := by
    intro v
    refine broadcastTo_apply _ _ _ _ fun a => ?_
    match a with
    | ⟨0, _⟩ => rfl
    | ⟨1, _⟩ => rfl
  have e' : ∀ (v : FVec Ideal S1x1536 .f32), broadcastTo S64x1536 v broadcasts_S1x1536_S64x1536 (ValueIdx.ix2 r k) = v (ValueIdx.ix2 (0 : Fin 1) k) := by
    intro v
    refine broadcastTo_apply _ _ _ _ fun a => ?_
    match a with
    | ⟨0, _⟩ => rfl
    | ⟨1, _⟩ => rfl
  have id1 : ∀ k : Fin 1536, shapeCast S64x1536 x shapeCasts_S64x1536_S64x1536 (ValueIdx.ix2 r k) = x (ValueIdx.ix2 r k) :=
    fun k => shapeCast_apply _ _ (ValueIdx.ix2 r k) (ValueIdx.ix2 r k) rfl
  have id2 : shapeCast S1x1536 g shapeCasts_S1x1536_S1x1536 (ValueIdx.ix2 (0 : Fin 1) k) = g (ValueIdx.ix2 (0 : Fin 1) k) :=
    shapeCast_apply _ _ (ValueIdx.ix2 (0 : Fin 1) k) (ValueIdx.ix2 (0 : Fin 1) k) rfl
  have sm : ∀ v : FVec Ideal S64x1536 .f32, shapeCast S64x1 (multiReduction .add [1] S64 v 0x00000000#32 reduces_S64x1536_S64 (.inl rfl) rfl)
      shapeCasts_S64_S64x1 (ValueIdx.ix2 r (0 : Fin 1)) = ∑ j : Fin 1536, v (ValueIdx.ix2 r j) := by
    intro v
    rw [shapeCast_apply _ _ (ValueIdx.ix2 r (0 : Fin 1)) (ValueIdx.ix1 r) (by rw [Shape.rowMajor_val_one, Shape.rowMajor_val_two]; show r.val = r.val * 1 + 0; omega)]
    refine (Ideal.multiReduction_add_single _ _ _ _ _ (ValueIdx.ix1 r)).trans (Finset.sum_congr rfl fun j _ => ?_)
    have : reduces_S64x1536_S64.lift (ValueIdx.ix1 r) j = ValueIdx.ix2 r j := by
      funext a; match a with | ⟨0, _⟩ => rfl | ⟨1, _⟩ => rfl
    exact congrArg v this
  rw [truncf_apply, ValueIdx.mulf_apply, ValueIdx.mulf_apply, e, e', id2]
  rw [rsqrt_apply, ValueIdx.addf_apply, ValueIdx.mulf_apply, sm, extf_apply, id1]
  unfold nval
  have kappa : (Named.named κ "inv_k" 0x3A2AAAAB#32 : Ideal .f32) = ((1 / 1536 : ℝ) : EReal) :=
    IdealRules.named_const.ideal_named_scalar _ _ _ _ rfl
  have hs : (∑ j : Fin 1536, mulf (F := Ideal) (extf .f32 (shapeCast S64x1536 x shapeCasts_S64x1536_S64x1536) bitsLt_bf16_f32)
      (extf .f32 (shapeCast S64x1536 x shapeCasts_S64x1536_S64x1536) bitsLt_bf16_f32) (ValueIdx.ix2 r j)) = ∑ j : Fin 1536, x (ValueIdx.ix2 r j) * x (ValueIdx.ix2 r j) := by
    refine Finset.sum_congr rfl fun j _ => ?_
    rw [ValueIdx.mulf_apply, extf_apply, id1]
    rfl
  rw [hs, ValueIdx.broadcast_apply, ValueIdx.broadcast_apply, kappa]
  rfl

/-! ## The permutation -/

/-- Where lane `l` of a permuted block of low halves comes from, in its block of 256 columns. -/
def perm (l : ℕ) : ℕ := 128 * (l / 64) + 32 * (l / 16 % 4) + l % 16

/-- A lane number as the gather reads it. -/
def gidx (w : BitVec 32) : BitVec 32 := Scalar.select (IntOp.cmpi .slt w 0#32) (IntOp.addi w 128#32) w

/-- The word of a source lane. -/
def srcw (w : BitVec 32) : BitVec 32 := IntOp.addi (IntOp.muli (fmodw (fdivw w 16#32) 4#32) 32#32) (fmodw w 16#32)

theorem src_words : ∀ l : Fin 128, (gidx (srcw (BitVec.ofNat 32 l.val))).toNat % 128 = 32 * (l.val / 16 % 4) + l.val % 16
    ∧ (gidx (IntOp.addi (srcw (BitVec.ofNat 32 l.val)) 16#32)).toNat % 128 = 32 * (l.val / 16 % 4) + l.val % 16 + 16
    ∧ IntOp.cmpi .slt (BitVec.ofNat 32 l.val) 64#32 = BitVec.ofBool (decide (l.val < 64)) := by decide +kernel

theorem LANE64_apply (r : Fin 64) (l : Fin 128) : LANE64 (ValueIdx.ix2 r l) = BitVec.ofNat 32 l.val := iota_single_apply _ _ _ _ _ _

theorem SRC_apply (r : Fin 64) (l : Fin 128) : SRC (ValueIdx.ix2 r l) = srcw (BitVec.ofNat 32 l.val) := by
  rw [← LANE64_apply r l]
  unfold SRC srcw
  rw [addi_apply, muli_apply, FMOD_apply, FMOD_apply, FDIV_apply]
  rfl

theorem GATH_apply (v : FVec Ideal S64x128 .f32) (idx : IVec S64x128 32) (r : Fin 64) (l : Fin 128) (n : Fin 128)
    (h : (gidx (idx (ValueIdx.ix2 r l))).toNat % 128 = n.val) : GATH v idx (ValueIdx.ix2 r l) = v (ValueIdx.ix2 r n) := by
  unfold GATH
  rw [dynamicGather_apply]
  refine congrArg v (funext fun a => ?_)
  match a with
  | ⟨0, _⟩ => rfl
  | ⟨1, _⟩ =>
    refine Fin.ext ?_
    rw [if_pos (show (⟨1, _⟩ : Fin S64x128.rank) = 1 from rfl)]
    refine Eq.trans ?_ h
    show _ % 128 = _
    refine congrArg (fun z : BitVec 32 => z.toNat % 128) ?_
    rw [shapeCast_apply _ _ (ValueIdx.ix2 r l) (ValueIdx.ix3 r l (0 : Fin 1)) (by
        rw [Shape.rowMajor_val_two, Shape.rowMajor_val_three]; show (r.val * 128 + l.val) * 1 + 0 = r.val * 128 + l.val; omega),
      shapeCast_apply _ _ (ValueIdx.ix3 r l (0 : Fin 1)) (ValueIdx.ix2 r l) (by
        rw [Shape.rowMajor_val_two, Shape.rowMajor_val_three]; show r.val * 128 + l.val = (r.val * 128 + l.val) * 1 + 0; omega)]
    rfl

theorem first_lanes {α : Type} (r : Fin 64) (l : Fin 128) (x y : S64x128.Idx → α) :
    select (cmpi .slt LANE64 (broadcast S64x128 64#32)) x y (ValueIdx.ix2 r l) = if l.val < 64 then x (ValueIdx.ix2 r l) else y (ValueIdx.ix2 r l) := by
  rw [ValueIdx.select_apply, cmpi_apply, ValueIdx.broadcast_apply, LANE64_apply, (src_words l).2.2]
  by_cases h : l.val < 64
  · rw [if_pos h, decide_eq_true h]; rfl
  · rw [if_neg h, decide_eq_false h]; rfl

theorem PERMLO_apply (u : FVec Ideal S64x256 .f32) (r : Fin 64) (l : Fin 128) :
    PERMLO u (ValueIdx.ix2 r l) = u (ValueIdx.ix2 r (⟨perm l.val, by unfold perm; omega⟩ : Fin 256)) := by
  unfold PERMLO
  rw [shapeCast_apply _ _ (ValueIdx.ix2 r l) (ValueIdx.ix2 r l) rfl, truncf_apply, first_lanes]
  have h := (src_words l).1
  rw [← SRC_apply r l] at h
  rw [GATH_apply _ _ r l ⟨32 * (l.val / 16 % 4) + l.val % 16, by omega⟩ h, GATH_apply _ _ r l ⟨32 * (l.val / 16 % 4) + l.val % 16, by omega⟩ h]
  by_cases h6 : l.val < 64
  · rw [if_pos h6]
    refine extractStridedSlice_apply _ _ _ _ _ fun a => ?_
    match a with
    | ⟨0, _⟩ => show r.val = 0 + r.val; omega
    | ⟨1, _⟩ => show perm l.val = 0 + (32 * (l.val / 16 % 4) + l.val % 16); unfold perm; omega
  · rw [if_neg h6]
    refine extractStridedSlice_apply _ _ _ _ _ fun a => ?_
    match a with
    | ⟨0, _⟩ => show r.val = 0 + r.val; omega
    | ⟨1, _⟩ => show perm l.val = 128 + (32 * (l.val / 16 % 4) + l.val % 16); unfold perm; omega

theorem PERMHI_apply (u : FVec Ideal S64x256 .f32) (r : Fin 64) (l : Fin 128) :
    PERMHI u (ValueIdx.ix2 r l) = u (ValueIdx.ix2 r (⟨perm l.val + 16, by unfold perm; omega⟩ : Fin 256)) := by
  unfold PERMHI
  rw [shapeCast_apply _ _ (ValueIdx.ix2 r l) (ValueIdx.ix2 r l) rfl, truncf_apply, first_lanes]
  have h := (src_words l).2.1
  have h' : (gidx (addi SRC (broadcast S64x128 16#32) (ValueIdx.ix2 r l))).toNat % 128 = 32 * (l.val / 16 % 4) + l.val % 16 + 16 := by
    rw [addi_apply, ValueIdx.broadcast_apply, SRC_apply]
    exact h
  rw [GATH_apply _ _ r l ⟨32 * (l.val / 16 % 4) + l.val % 16 + 16, by omega⟩ h', GATH_apply _ _ r l ⟨32 * (l.val / 16 % 4) + l.val % 16 + 16, by omega⟩ h']
  by_cases h6 : l.val < 64
  · rw [if_pos h6]
    refine extractStridedSlice_apply _ _ _ _ _ fun a => ?_
    match a with
    | ⟨0, _⟩ => show r.val = 0 + r.val; omega
    | ⟨1, _⟩ => show perm l.val + 16 = 0 + (32 * (l.val / 16 % 4) + l.val % 16 + 16); unfold perm; omega
  · rw [if_neg h6]
    refine extractStridedSlice_apply _ _ _ _ _ fun a => ?_
    match a with
    | ⟨0, _⟩ => show r.val = 0 + r.val; omega
    | ⟨1, _⟩ => show perm l.val + 16 = 128 + (32 * (l.val / 16 % 4) + l.val % 16 + 16); unfold perm; omega

theorem U256_apply (N : FVec Ideal S64x1536 .bf16) (b : Fin 6) (r : Fin 64) (k : Fin 256) :
    U256 N b (ValueIdx.ix2 r k) = N (ValueIdx.ix2 r (⟨256 * b.val + k.val, by omega⟩ : Fin 1536)) := by
  unfold U256
  rw [extf_apply]
  refine extractStridedSlice_apply _ _ _ _ _ fun a => ?_
  match a with
  | ⟨0, _⟩ => show r.val = 0 + r.val; omega
  | ⟨1, _⟩ => rfl

/-- Where column `k` of the permuted rows comes from. -/
def col (k : Fin 1536) : Fin 1536 :=
  ⟨256 * (k.val / 256) + perm (k.val % 128) + 16 * (k.val / 128 % 2), by unfold perm; omega⟩

theorem PJ_apply (N : FVec Ideal S64x1536 .bf16) (r : Fin 64) (k : Fin 1536) :
    PJ N ⟨k.val / 128, by omega⟩ (ValueIdx.ix2 r (⟨k.val % 128, by omega⟩ : Fin 128)) = N (ValueIdx.ix2 r (col k)) := by
  unfold PJ
  by_cases h : k.val / 128 % 2 = 0
  · rw [if_pos h, PERMLO_apply, U256_apply]
    refine congrArg (fun z => N (ValueIdx.ix2 r z)) (Fin.ext ?_)
    show 256 * (k.val / 128 / 2) + perm (k.val % 128) = 256 * (k.val / 256) + perm (k.val % 128) + 16 * (k.val / 128 % 2)
    omega
  · rw [if_neg h, PERMHI_apply, U256_apply]
    refine congrArg (fun z => N (ValueIdx.ix2 r z)) (Fin.ext ?_)
    show 256 * (k.val / 128 / 2) + (perm (k.val % 128) + 16) = 256 * (k.val / 256) + perm (k.val % 128) + 16 * (k.val / 128 % 2)
    omega

/-- The permuted normalised rows, index by index. -/
theorem XN_apply (x0 : Vec Ideal S1024x1536 .bf16) (x1 : Vec Ideal S1x1536 .f32) (r : Fin 1024) (k : Fin 1536) :
    XN x0 x1 (ValueIdx.ix2 r k) = nval (fun j => x0 (ValueIdx.ix2 r j)) (fun j => x1 (ValueIdx.ix2 (0 : Fin 1) j)) (col k) := by
  refine (PJ_apply (NK x0 x1 ⟨r.val / 64, by omega⟩) ⟨r.val % 64, by omega⟩ k).trans ?_
  unfold NK
  rw [NORM_apply]
  refine congrArg (fun f => nval f (fun j => x1 (ValueIdx.ix2 (0 : Fin 1) j)) (col k)) (funext fun j => ?_)
  unfold View.ld
  refine congrArg x0 (funext fun a => Fin.ext ?_)
  match a with
  | ⟨0, _⟩ => show 64 * (r.val / 64) + 1 * (r.val % 64) = r.val; omega
  | ⟨1, _⟩ => show 0 + 1 * j.val = j.val; omega

end Cert.KernelIdeal.Hand

end
-- ==== Proof.Ref.lean ====
/- The reference's two results at an index, on extended reals. -/
module

public import proofs.«01_k».proof.Proof.Weights
public import proofs.«01_k».proof.Proof.Rows
public import proofs.«01_k».proof.Proof.Gen.ReferenceIdeal.Skeleton

@[expose] public section

set_option maxRecDepth 16384

noncomputable section

namespace Cert.ReferenceIdeal.Hand

open Idealize.ShloMosaic Idealize.SL.Sem
open Cert.ReferenceIdeal.Gen
open Cert.KernelIdeal.Hand (nval qlo qhi rowmax tval)

/-- Element `k` of row `r`, normalised. -/
def nrow (a0 : Vec Ideal S1024x1x1536 .bf16) (a1 : Vec Ideal S1536 .f32) (r : Fin 1024) (k : Fin 1536) : EReal :=
  nval (fun j => a0 (ValueIdx.ix3 r (0 : Fin 1) j)) (fun j => a1 (ValueIdx.ix1 j)) k

theorem lit1536 : Ideal.ofBits .f32 0x44C00000#32 = ((1536 : ℝ) : EReal) := by
  simp [Ideal.ofBits, Ideal.ieee, -EReal.coe_mul]; norm_num

/-- The normalised rows, in groups of 32. -/
theorem rows_apply (a0 : Vec Ideal S1024x1x1536 .bf16) (a1 : Vec Ideal S1536 .f32) (r : Fin 1024) (g : Fin 48) (j : Fin 32) :
    k0_pay7 a0 a1 (ValueIdx.ix3 r g j) = nrow a0 a1 r ⟨32 * g.val + j.val, by omega⟩ := by
  unfold k0_pay7
  dsimp only
  rw [shapeCast_apply _ _ (ValueIdx.ix3 r g j) (ValueIdx.ix2 r (⟨32 * g.val + j.val, by omega⟩ : Fin 1536)) (by
    rw [Shape.rowMajor_val_two, Shape.rowMajor_val_three]; show r.val * 1536 + (32 * g.val + j.val) = (r.val * 48 + g.val) * 32 + j.val; omega)]
  generalize (⟨32 * g.val + j.val, by omega⟩ : Fin 1536) = k
  have e : ∀ (v : FVec Ideal S1024x1 .f32), broadcastTo S1024x1536 v broadcasts_S1024x1_S1024x1536 (ValueIdx.ix2 r k) = v (ValueIdx.ix2 r (0 : Fin 1)) := by
    intro v
    refine broadcastTo_apply _ _ _ _ fun a => ?_
    match a with
    | ⟨0, _⟩ => rfl
    | ⟨1, _⟩ => rfl
  have e' : ∀ (v : FVec Ideal S1x1536 .f32), broadcastTo S1024x1536 v broadcasts_S1x1536_S1024x1536 (ValueIdx.ix2 r k) = v (ValueIdx.ix2 (0 : Fin 1) k) := by
    intro v
    refine broadcastTo_apply _ _ _ _ fun a => ?_
    match a with
    | ⟨0, _⟩ => rfl
    | ⟨1, _⟩ => rfl
  have id1 : ∀ k : Fin 1536, shapeCast S1024x1536 a0 shapeCasts_S1024x1x1536_S1024x1536 (ValueIdx.ix2 r k) = a0 (ValueIdx.ix3 r (0 : Fin 1) k) :=
    fun k => shapeCast_apply _ _ (ValueIdx.ix2 r k) (ValueIdx.ix3 r (0 : Fin 1) k) (by
      rw [Shape.rowMajor_val_two, Shape.rowMajor_val_three]; show (r.val * 1 + 0) * 1536 + k.val = r.val * 1536 + k.val; omega)
  have id2 : shapeCast S1x1536 a1 shapeCasts_S1536_S1x1536 (ValueIdx.ix2 (0 : Fin 1) k) = a1 (ValueIdx.ix1 k) :=
    shapeCast_apply _ _ (ValueIdx.ix2 (0 : Fin 1) k) (ValueIdx.ix1 k) (by
      rw [Shape.rowMajor_val_two, Shape.rowMajor_val_one]; show k.val = 0 * 1536 + k.val; omega)
  have sm : ∀ v : FVec Ideal S1024x1536 .f32, shapeCast S1024x1 (multiReduction .add [1] S1024 v 0x00000000#32 reduces_S1024x1536_S1024 (.inl rfl) rfl)
      shapeCasts_S1024_S1024x1 (ValueIdx.ix2 r (0 : Fin 1)) = ∑ j : Fin 1536, v (ValueIdx.ix2 r j) := by
    intro v
    rw [shapeCast_apply _ _ (ValueIdx.ix2 r (0 : Fin 1)) (ValueIdx.ix1 r) (by rw [Shape.rowMajor_val_one, Shape.rowMajor_val_two]; show r.val = r.val * 1 + 0; omega)]
    refine (Ideal.multiReduction_add_single _ _ _ _ _ (ValueIdx.ix1 r)).trans (Finset.sum_congr rfl fun j _ => ?_)
    have : reduces_S1024x1536_S1024.lift (ValueIdx.ix1 r) j = ValueIdx.ix2 r j := by
      funext a; match a with | ⟨0, _⟩ => rfl | ⟨1, _⟩ => rfl
    exact congrArg v this
  rw [truncf_apply, ValueIdx.mulf_apply, ValueIdx.mulf_apply, e, e', id2]
  rw [rsqrt_apply, ValueIdx.addf_apply, ValueIdx.divf_apply, sm, extf_apply, id1]
  have hs : (∑ j : Fin 1536, mulf (F := Ideal) (extf .f32 (shapeCast S1024x1536 a0 shapeCasts_S1024x1x1536_S1024x1536) bitsLt_bf16_f32)
      (extf .f32 (shapeCast S1024x1536 a0 shapeCasts_S1024x1x1536_S1024x1536) bitsLt_bf16_f32) (ValueIdx.ix2 r j)) = ∑ j : Fin 1536, a0 (ValueIdx.ix3 r (0 : Fin 1) j) * a0 (ValueIdx.ix3 r (0 : Fin 1) j) := by
    refine Finset.sum_congr rfl fun j _ => ?_
    rw [ValueIdx.mulf_apply, extf_apply, id1]
    rfl
  rw [hs, ValueIdx.broadcast_apply, ValueIdx.broadcast_apply]
  have lit : (FloatOps.ofBits .f32 0x44C00000#32 : Ideal .f32) = ((1536 : ℝ) : EReal) := lit1536
  rw [lit, Ideal.div_coe (by norm_num : (1536 : ℝ) ≠ 0)]
  rfl

/-! ## The product -/

theorem field_ints : ∀ w : BitVec 8, (IntOp.andi (w.setWidth 32) 15#32).toInt = ((w.toNat % 16 : ℕ) : ℤ)
    ∧ (IntOp.shrsi .vector (w.setWidth 32) 4#32).toInt = ((w.toNat / 16 : ℕ) : ℤ) := by decide +kernel

theorem scale_apply (a3 : Vec Ideal S8960x48 .bf16) (n : Fin 8960) (g : Fin 48) (i : Fin 16) :
    broadcastTo S8960x48x16 (shapeCast S8960x48x1 a3 shapeCasts_S8960x48_S8960x48x1) broadcasts_S8960x48x1_S8960x48x16 (ValueIdx.ix3 n g i) = a3 (ValueIdx.ix2 n g) := by
  rw [broadcastTo_apply _ _ (ValueIdx.ix3 n g i) (ValueIdx.ix3 n g (0 : Fin 1)) (by
    intro a
    match a with
    | ⟨0, _⟩ => rfl
    | ⟨1, _⟩ => rfl
    | ⟨2, _⟩ => rfl)]
  exact shapeCast_apply _ _ _ _ (by
    rw [Shape.rowMajor_val_two, Shape.rowMajor_val_three]; show n.val * 48 + g.val = (n.val * 48 + g.val) * 1 + 0; omega)

/-- A field of sixteen columns, dequantised and laid out along the row again. -/
theorem field_apply (a3 : Vec Ideal S8960x48 .bf16) (v : IVec S8960x768 32) (n : Fin 8960) (k : Fin 768) :
    shapeCast S8960x768 (mulf (F := Ideal) (subf (sitofp .bf16 (shapeCast S8960x48x16 v shapeCasts_S8960x768_S8960x48x16))
        (broadcast S8960x48x16 (Scalar.ofBits .bf16 0x4100#16)))
      (broadcastTo S8960x48x16 (shapeCast S8960x48x1 a3 shapeCasts_S8960x48_S8960x48x1) broadcasts_S8960x48x1_S8960x48x16))
      shapeCasts_S8960x48x16_S8960x768 (ValueIdx.ix2 n k)
    = ((((v (ValueIdx.ix2 n k)).toInt : ℝ) : EReal) - Ideal.ofBits .bf16 0x4100#16) * a3 (ValueIdx.ix2 n (⟨k.val / 16, by omega⟩ : Fin 48)) := by
  rw [shapeCast_apply _ _ (ValueIdx.ix2 n k) (ValueIdx.ix3 n (⟨k.val / 16, by omega⟩ : Fin 48) (⟨k.val % 16, by omega⟩ : Fin 16)) (by
    rw [Shape.rowMajor_val_two, Shape.rowMajor_val_three]; show (n.val * 48 + k.val / 16) * 16 + k.val % 16 = n.val * 768 + k.val; omega)]
  rw [ValueIdx.mulf_apply, ValueIdx.subf_apply, scale_apply, ValueIdx.sitofp_apply,
    shapeCast_apply _ _ (ValueIdx.ix3 n (⟨k.val / 16, by omega⟩ : Fin 48) (⟨k.val % 16, by omega⟩ : Fin 16)) (ValueIdx.ix2 n k) (by
    rw [Shape.rowMajor_val_two, Shape.rowMajor_val_three]; show n.val * 768 + k.val = (n.val * 48 + k.val / 16) * 16 + k.val % 16; omega)]
  rfl

/-- One half of every group of a row, laid out along the row again. -/
theorem half_apply (a0 : Vec Ideal S1024x1x1536 .bf16) (a1 : Vec Ideal S1536 .f32) (o : ℕ) (ho : o + 16 ≤ 32)
    (h : S1024x48x32.Slices ![0, 0, o] S1024x48x16) (r : Fin 1024) (k : Fin 768) :
    shapeCast S1024x768 (extractStridedSlice S1024x48x16 ![0, 0, o] (k0_pay7 a0 a1) h) shapeCasts_S1024x48x16_S1024x768 (ValueIdx.ix2 r k)
    = nrow a0 a1 r ⟨32 * (k.val / 16) + (o + k.val % 16), by omega⟩ := by
  rw [shapeCast_apply _ _ (ValueIdx.ix2 r k) (ValueIdx.ix3 r (⟨k.val / 16, by omega⟩ : Fin 48) (⟨k.val % 16, by omega⟩ : Fin 16)) (by
    rw [Shape.rowMajor_val_two, Shape.rowMajor_val_three]; show (r.val * 48 + k.val / 16) * 16 + k.val % 16 = r.val * 768 + k.val; omega)]
  rw [extractStridedSlice_apply _ _ _ _ (ValueIdx.ix3 r (⟨k.val / 16, by omega⟩ : Fin 48) (⟨o + k.val % 16, by omega⟩ : Fin 32)) (by
    intro a
    match a with
    | ⟨0, _⟩ => show r.val = 0 + r.val; omega
    | ⟨1, _⟩ => show k.val / 16 = 0 + k.val / 16; omega
    | ⟨2, _⟩ => rfl)]
  exact rows_apply _ _ _ _ _

theorem dot_apply (x : FVec Ideal S1024x768 .bf16) (w : FVec Ideal S8960x768 .bf16) (r : Fin 1024) (n : Fin 8960) :
    matmul (F := Ideal) dot_S1024x768_S8960x768_S1024x8960_1_1_0_0_n_n none x w (constant S1024x8960 .f32 0x00000000#32) (ValueIdx.ix2 r n)
    = ∑ k : Fin 768, x (ValueIdx.ix2 r k) * w (ValueIdx.ix2 n k) := by
  refine (Ideal.matmul_apply₁_of dot_S1024x768_S8960x768_S1024x8960_1_1_0_0_n_n (a := 1) rfl (K := 768) rfl _ _ _ (ValueIdx.ix2 r n)
    (fun k => ValueIdx.ix2 r k) (fun k => ValueIdx.ix2 n k) ?_ ?_).trans ?_
  · intro k; funext a
    match a with
    | ⟨0, _⟩ => rfl
    | ⟨1, _⟩ => rfl
  · intro k; funext a
    match a with
    | ⟨0, _⟩ => rfl
    | ⟨1, _⟩ => rfl
  rw [show constant (F := Ideal) S1024x8960 .f32 0x00000000#32 (ValueIdx.ix2 r n) = 0 from Ideal.ofBits_zero_f32, zero_add]

/-- The term of byte `k` in the product of row `r` with weight row `n`: half `o` of its group. -/
def term (a0 : Vec Ideal S1024x1x1536 .bf16) (a1 : Vec Ideal S1536 .f32) (a2 : Vec Ideal S8960x768 .i8) (a3 : Vec Ideal S8960x48 .bf16)
    (r : Fin 1024) (n : Fin 8960) (o : Fin 2) (k : Fin 768) : EReal :=
  nrow a0 a1 r ⟨32 * (k.val / 16) + (16 * o.val + k.val % 16), by omega⟩
    * ((if o.val = 0 then qlo (a2 (ValueIdx.ix2 n k)) else qhi (a2 (ValueIdx.ix2 n k))) * a3 (ValueIdx.ix2 n (⟨k.val / 16, by omega⟩ : Fin 48)))

/-- Element `(r, n)` of the product. -/
def href (a0 : Vec Ideal S1024x1x1536 .bf16) (a1 : Vec Ideal S1536 .f32) (a2 : Vec Ideal S8960x768 .i8) (a3 : Vec Ideal S8960x48 .bf16)
    (r : Fin 1024) (n : Fin 8960) : EReal :=
  ∑ k : Fin 768, term a0 a1 a2 a3 r n 0 k + ∑ k : Fin 768, term a0 a1 a2 a3 r n 1 k

theorem low_apply (a0 : Vec Ideal S1024x1x1536 .bf16) (a1 : Vec Ideal S1536 .f32) (a2 : Vec Ideal S8960x768 .i8) (a3 : Vec Ideal S8960x48 .bf16)
    (r : Fin 1024) (n : Fin 8960) : k0_pay8 a0 a1 a2 a3 (ValueIdx.ix2 r n) = ∑ k : Fin 768, term a0 a1 a2 a3 r n 0 k := by
  unfold k0_pay8
  rw [dot_apply]
  refine Finset.sum_congr rfl fun k _ => ?_
  rw [half_apply a0 a1 0 (by norm_num), field_apply]
  unfold term
  rw [if_pos (show (0 : Fin 2).val = 0 from rfl)]
  refine congrArg₂ (fun a b : EReal => a * b) rfl (congrArg₂ (fun a b : EReal => a * b) ?_ rfl)
  unfold qlo k0_pay5
  rw [andi_apply, ValueIdx.extui_apply, ValueIdx.broadcast_apply, (field_ints _).1]
  norm_cast

theorem prod_apply (a0 : Vec Ideal S1024x1x1536 .bf16) (a1 : Vec Ideal S1536 .f32) (a2 : Vec Ideal S8960x768 .i8) (a3 : Vec Ideal S8960x48 .bf16)
    (r : Fin 1024) (b : Fin 70) (l : Fin 128) :
    k0_pay1 (k0_pay6 a2 a3) (k0_pay7 a0 a1) (k0_pay8 a0 a1 a2 a3) (ValueIdx.ix3 r b l) = href a0 a1 a2 a3 r ⟨128 * b.val + l.val, by omega⟩ := by
  unfold k0_pay1
  rw [shapeCast_apply _ _ (ValueIdx.ix3 r b l) (ValueIdx.ix2 r (⟨128 * b.val + l.val, by omega⟩ : Fin 8960)) (by
    rw [Shape.rowMajor_val_two, Shape.rowMajor_val_three]; show r.val * 8960 + (128 * b.val + l.val) = (r.val * 70 + b.val) * 128 + l.val; omega)]
  rw [ValueIdx.addf_apply, low_apply, dot_apply]
  unfold href
  refine congrArg (fun z : EReal => _ + z) (Finset.sum_congr rfl fun k _ => ?_)
  rw [half_apply a0 a1 16 (by norm_num)]
  unfold k0_pay6
  rw [field_apply]
  unfold term
  rw [if_neg (show ¬ (1 : Fin 2).val = 0 by decide)]
  refine congrArg₂ (fun a b : EReal => a * b) rfl (congrArg₂ (fun a b : EReal => a * b) ?_ rfl)
  unfold qhi k0_pay5
  rw [shrsi_apply, ValueIdx.extui_apply, ValueIdx.broadcast_apply, (field_ints _).2]
  norm_cast

/-! ## The quantiser -/

/-- The 128 elements of row `r` and block `b` of the product. -/
def hrow (a0 : Vec Ideal S1024x1x1536 .bf16) (a1 : Vec Ideal S1536 .f32) (a2 : Vec Ideal S8960x768 .i8) (a3 : Vec Ideal S8960x48 .bf16)
    (r : Fin 1024) (b : Fin 70) (l : Fin 128) : EReal := href a0 a1 a2 a3 r ⟨128 * b.val + l.val, by omega⟩

/-- The largest magnitude of a row's block. -/
theorem max_apply (a0 : Vec Ideal S1024x1x1536 .bf16) (a1 : Vec Ideal S1536 .f32) (a2 : Vec Ideal S8960x768 .i8) (a3 : Vec Ideal S8960x48 .bf16)
    (r : Fin 1024) (b : Fin 70) (h : S1024x70x128.Reduces [2] S1024x70) (h1 h2) :
    multiReduction (F := Ideal) .maximumf [2] S1024x70 (absf (k0_pay1 (k0_pay6 a2 a3) (k0_pay7 a0 a1) (k0_pay8 a0 a1 a2 a3))) 0xFF800000#32
      h h1 h2 (ValueIdx.ix2 r b) = rowmax (hrow a0 a1 a2 a3 r b) := by
  have hk : ∀ k : Fin 128, k0_pay1 (k0_pay6 a2 a3) (k0_pay7 a0 a1) (k0_pay8 a0 a1 a2 a3) (ValueIdx.ix3 r b k) = hrow a0 a1 a2 a3 r b k :=
    fun k => prod_apply a0 a1 a2 a3 r b k
  generalize k0_pay1 (k0_pay6 a2 a3) (k0_pay7 a0 a1) (k0_pay8 a0 a1 a2 a3) = v at hk ⊢
  generalize hrow a0 a1 a2 a3 r b = f at hk ⊢
  refine (Ideal.multiReduction_maximumf_single (absf v) _ _ _ _ (ValueIdx.ix2 r b)).trans ?_
  unfold rowmax
  refine Finset.fold_congr fun k _ => ?_
  have : h.lift (ValueIdx.ix2 r b) k = ValueIdx.ix3 r b k := by
    funext a; match a with | ⟨0, _⟩ => rfl | ⟨1, _⟩ => rfl | ⟨2, _⟩ => rfl
  refine (congrArg (absf v) this).trans ?_
  rw [← hk k]
  rfl

/-- The exponent of a row's block. -/
theorem exp_apply (a0 : Vec Ideal S1024x1x1536 .bf16) (a1 : Vec Ideal S1536 .f32) (a2 : Vec Ideal S8960x768 .i8) (a3 : Vec Ideal S8960x48 .bf16)
    (r : Fin 1024) (b : Fin 70) :
    k0_pay2 (k0_pay6 a2 a3) (k0_pay7 a0 a1) (k0_pay8 a0 a1 a2 a3) (ValueIdx.ix2 r b)
    = Scales.eref (rowmax (hrow a0 a1 a2 a3 r b)) (tval (hrow a0 a1 a2 a3 r b)) := by
  unfold k0_pay2
  dsimp only
  unfold Scales.eref tval
  rw [ValueIdx.select_apply, ValueIdx.cmpf_apply, ValueIdx.maximumf_apply, ValueIdx.addf_apply, floor_apply, ValueIdx.divf_apply, log_apply,
    ValueIdx.mulf_apply, ValueIdx.broadcast_apply, ValueIdx.broadcast_apply, ValueIdx.broadcast_apply, ValueIdx.broadcast_apply, ValueIdx.broadcast_apply]
  erw [max_apply]
  rfl

/-- A code of the reference. -/
theorem codes_apply (a0 : Vec Ideal S1024x1x1536 .bf16) (a1 : Vec Ideal S1536 .f32) (a2 : Vec Ideal S8960x768 .i8) (a3 : Vec Ideal S8960x48 .bf16)
    (r : Fin 1024) (b : Fin 70) (l : Fin 128) :
    k0_pay3 (k0_pay6 a2 a3) (k0_pay7 a0 a1) (k0_pay8 a0 a1 a2 a3) (ValueIdx.ix2 r (⟨128 * b.val + l.val, by omega⟩ : Fin 8960))
    = min (Ideal.ofBits .f32 0x43E00000#32) (max (Ideal.ofBits .f32 0xC3E00000#32)
        (hrow a0 a1 a2 a3 r b l * Ideal.exp2 (Ideal.ofBits .f32 0#32 - Scales.eref (rowmax (hrow a0 a1 a2 a3 r b)) (tval (hrow a0 a1 a2 a3 r b))))) := by
  rw [← exp_apply]
  unfold k0_pay3
  rw [shapeCast_apply _ _ (ValueIdx.ix2 r (⟨128 * b.val + l.val, by omega⟩ : Fin 8960)) (ValueIdx.ix3 r b l) (by
    rw [Shape.rowMajor_val_two, Shape.rowMajor_val_three]; show (r.val * 70 + b.val) * 128 + l.val = r.val * 8960 + (128 * b.val + l.val); omega)]
  rw [truncf_apply, ValueIdx.minimumf_apply, ValueIdx.maximumf_apply, ValueIdx.mulf_apply, prod_apply]
  rw [broadcastTo_apply _ _ (ValueIdx.ix3 r b l) (ValueIdx.ix3 r b (0 : Fin 1)) (by
    intro a
    match a with
    | ⟨0, _⟩ => rfl
    | ⟨1, _⟩ => rfl
    | ⟨2, _⟩ => rfl),
    shapeCast_apply _ _ (ValueIdx.ix3 r b (0 : Fin 1)) (ValueIdx.ix2 r b) (by
      rw [Shape.rowMajor_val_two, Shape.rowMajor_val_three]; show r.val * 70 + b.val = (r.val * 70 + b.val) * 1 + 0; omega)]
  rw [exp2_apply, ValueIdx.subf_apply]
  generalize k0_pay2 (k0_pay6 a2 a3) (k0_pay7 a0 a1) (k0_pay8 a0 a1 a2 a3) (ValueIdx.ix2 r b) = e
  generalize 0x43E00000#32 = p1
  generalize 0xC3E00000#32 = p2
  rfl

/-- A scale of the reference. -/
theorem scales_apply (a0 : Vec Ideal S1024x1x1536 .bf16) (a1 : Vec Ideal S1536 .f32) (a2 : Vec Ideal S8960x768 .i8) (a3 : Vec Ideal S8960x48 .bf16)
    (r : Fin 1024) (b : Fin 70) :
    k0_pay4 (k0_pay6 a2 a3) (k0_pay7 a0 a1) (k0_pay8 a0 a1 a2 a3) (ValueIdx.ix3 b (0 : Fin 1) r)
    = Ideal.exp2 (Scales.eref (rowmax (hrow a0 a1 a2 a3 r b)) (tval (hrow a0 a1 a2 a3 r b))) := by
  rw [← exp_apply]
  unfold k0_pay4
  dsimp only
  rw [shapeCast_apply _ _ (ValueIdx.ix3 b (0 : Fin 1) r) (ValueIdx.ix2 b r) (by
      rw [Shape.rowMajor_val_two, Shape.rowMajor_val_three]; show b.val * 1024 + r.val = (b.val * 1 + 0) * 1024 + r.val; omega),
    transpose_apply _ _ _ (ValueIdx.ix2 b r) (ValueIdx.ix2 r b) (by
      intro a
      match a with
      | ⟨0, _⟩ => rfl
      | ⟨1, _⟩ => rfl)]
  rw [exp2_apply]
  generalize k0_pay2 (k0_pay6 a2 a3) (k0_pay7 a0 a1) (k0_pay8 a0 a1 a2 a3) (ValueIdx.ix2 r b) = e
  rfl

end Cert.ReferenceIdeal.Hand

end
-- ==== Proof.Bounds.lean ====
/- Bounds: with gains and scales of magnitude at most `2^56`, the reference's product is far below what overflows the
   field of a scale's inverse. -/
module

public import proofs.«01_k».proof.Proof.Ref
public import proofs.«01_k».proof.Pre_scales_bounded

@[expose] public section

set_option maxRecDepth 16384

noncomputable section

namespace Cert.Bounds

open Idealize.ShloMosaic
open Cert.KernelIdeal.Hand (nval qlo qhi rowmax tval)
open Cert.ReferenceIdeal.Hand

/-- A real of magnitude at most `B`. -/
def Bd (B : ℝ) (x : EReal) : Prop := ∃ r : ℝ, x = (r : EReal) ∧ |r| ≤ B

theorem Bd.mul {A B : ℝ} {x y : EReal} (hx : Bd A x) (hy : Bd B y) : Bd (A * B) (x * y) := by
  obtain ⟨r, rfl, hr⟩ := hx
  obtain ⟨s, rfl, hs⟩ := hy
  exact ⟨r * s, (EReal.coe_mul r s).symm, by rw [abs_mul]; exact mul_le_mul hr hs (abs_nonneg s) ((abs_nonneg r).trans hr)⟩

theorem Bd.add {A B : ℝ} {x y : EReal} (hx : Bd A x) (hy : Bd B y) : Bd (A + B) (x + y) := by
  obtain ⟨r, rfl, hr⟩ := hx
  obtain ⟨s, rfl, hs⟩ := hy
  exact ⟨r + s, (EReal.coe_add r s).symm, (abs_add_le r s).trans (add_le_add hr hs)⟩

theorem Bd.mono {A B : ℝ} {x : EReal} (hx : Bd A x) (h : A ≤ B) : Bd B x := by
  obtain ⟨r, e, hr⟩ := hx
  exact ⟨r, e, hr.trans h⟩

theorem Bd.sum {ι : Type} (s : Finset ι) {B : ℝ} {f : ι → EReal} (h : ∀ i, Bd B (f i)) : Bd (s.card * B) (∑ i ∈ s, f i) := by
  classical
  induction s using Finset.induction_on with
  | empty => exact ⟨0, by simp, by simp⟩
  | insert a s ha ih =>
    rw [Finset.sum_insert ha, Finset.card_insert_of_notMem ha]
    refine ((h a).add ih).mono (le_of_eq ?_)
    push_cast; ring

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem lit_eps : ∃ e : ℝ, 0 < e ∧ Ideal.ofBits .f32 0x358637BD#32 = (e : EReal) := by
  refine ⟨(1 + 407485 / 2 ^ 23) * (2 : ℝ) ^ (-20 : ℤ), by positivity, ?_⟩
  simp [Ideal.ofBits, Ideal.ieee, -EReal.coe_mul]; norm_num

theorem lit_eight : Ideal.ofBits .bf16 0x4100#16 = ((8 : ℝ) : EReal) := by
  simp [Ideal.ofBits, Ideal.ieee, -EReal.coe_mul]; norm_num

theorem lit_bound32 : Ideal.ofBits .f32 0x5B800000#32 = ((2 ^ 56 : ℝ) : EReal) := by
  rw [show (2 ^ 56 : ℝ) = 72057594037927936 by norm_num]
  simp [Ideal.ofBits, Ideal.ieee, -EReal.coe_mul]; norm_num

theorem lit_bound16 : Ideal.ofBits .bf16 0x5B80#16 = ((2 ^ 56 : ℝ) : EReal) := by
  rw [show (2 ^ 56 : ℝ) = 72057594037927936 by norm_num]
  simp [Ideal.ofBits, Ideal.ieee, -EReal.coe_mul]; norm_num

theorem lit_ninf : Ideal.ofBits .f32 0xFF800000#32 = (⊥ : EReal) := by
  simp [Ideal.ofBits, Ideal.ieee]

theorem lit_inv448 : ∃ e : ℝ, 0 < e ∧ e ≤ 1 / 256 ∧ Ideal.ofBits .f32 0x3B124925#32 = (e : EReal) := by
  refine ⟨(1 + 1198373 / 2 ^ 23) * (2 : ℝ) ^ (-9 : ℤ), by positivity, by norm_num, ?_⟩
  simp [Ideal.ofBits, Ideal.ieee, -EReal.coe_mul]; norm_num

/-! ## The normalised rows -/

theorem sq_nonneg (x : EReal) : 0 ≤ x * x := by
  induction x using EReal.rec with
  | bot => simp
  | top => simp
  | coe r => rw [← EReal.coe_mul]; exact_mod_cast mul_self_nonneg r

/-- A row's element over its root mean square has magnitude at most 64, and is zero when the row is not finite. -/
theorem normed (x : Fin 1536 → EReal) (k : Fin 1536) :
    Bd 64 (x k * Ideal.rsqrt ((∑ j, x j * x j) * ((1 / 1536 : ℝ) : EReal) + Ideal.ofBits .f32 0x358637BD#32)) := by
  obtain ⟨e, he, hl⟩ := lit_eps
  rw [hl]
  by_cases hfin : ∀ j, ∃ r : ℝ, x j = (r : EReal)
  · choose y hy using hfin
    have hs : (∑ j, x j * x j) = ((∑ j, y j * y j : ℝ) : EReal) := by
      rw [coe_sum]
      exact Finset.sum_congr rfl fun j _ => by rw [hy, ← EReal.coe_mul]
    have hk : y k * y k ≤ ∑ j, y j * y j := Finset.single_le_sum (f := fun j => y j * y j) (fun j _ => mul_self_nonneg _) (Finset.mem_univ k)
    have h0 : 0 ≤ ∑ j, y j * y j := Finset.sum_nonneg fun j _ => mul_self_nonneg _
    rw [hs, ← EReal.coe_mul, ← EReal.coe_add, hy]
    generalize (∑ j, y j * y j) = S at *
    have hp : 0 < S * (1 / 1536) + e := by positivity
    rw [Ideal.rsqrt_coe, if_neg (not_lt.mpr hp.le), if_neg hp.ne', ← EReal.coe_mul]
    refine ⟨_, rfl, ?_⟩
    have hq : 0 < Real.sqrt (S * (1 / 1536) + e) := Real.sqrt_pos.mpr hp
    rw [abs_mul, abs_of_pos (inv_pos.mpr hq), ← div_eq_mul_inv, div_le_iff₀ hq]
    refine abs_le_of_sq_le_sq ?_ (by positivity)
    rw [mul_pow, Real.sq_sqrt hp.le]
    nlinarith
  · have : ∃ j, x j * x j = ⊤ := by
      push Not at hfin
      obtain ⟨j, hj⟩ := hfin
      refine ⟨j, ?_⟩
      generalize x j = z at hj
      induction z using EReal.rec with
      | bot => rfl
      | top => rfl
      | coe r => exact absurd rfl (hj r)
    obtain ⟨j, hj⟩ := this
    have hs : (∑ j, x j * x j) = ⊤ := by
      rw [← Finset.add_sum_erase _ _ (Finset.mem_univ j), hj]
      refine EReal.top_add_of_ne_bot fun h => ?_
      have h0 : (0 : EReal) ≤ ∑ i ∈ Finset.univ.erase j, x i * x i := Finset.sum_nonneg fun i _ => sq_nonneg _
      rw [h] at h0
      exact absurd h0 (by simp)
    rw [hs, EReal.top_mul_coe_of_pos (by norm_num), EReal.top_add_coe, Ideal.rsqrt_top, mul_zero]
    exact ⟨0, rfl, by norm_num⟩

theorem nval_bd (x g : Fin 1536 → EReal) (hg : ∀ k, Bd (2 ^ 56) (g k)) (k : Fin 1536) : Bd (2 ^ 62) (nval x g k) :=
  ((normed x k).mul (hg k)).mono (by norm_num)

theorem field_bd {n : ℕ} (h : n ≤ 16) : Bd 8 (((n : ℝ) : EReal) - Ideal.ofBits .bf16 0x4100#16) := by
  rw [lit_eight, ← EReal.coe_sub]
  have h' : (n : ℝ) ≤ 16 := by exact_mod_cast h
  have h0 : (0 : ℝ) ≤ n := Nat.cast_nonneg n
  exact ⟨_, rfl, abs_le.mpr ⟨by linarith, by linarith⟩⟩

theorem qlo_bd (w : BitVec 8) : Bd 8 (qlo w) := field_bd (by omega)
theorem qhi_bd (w : BitVec 8) : Bd 8 (qhi w) := field_bd (by have := w.isLt; omega)

section
variable (a0 : Vec Ideal Cert.ReferenceIdeal.S1024x1x1536 .bf16) (a1 : Vec Ideal Cert.ReferenceIdeal.S1536 .f32)
  (a2 : Vec Ideal Cert.ReferenceIdeal.S8960x768 .i8) (a3 : Vec Ideal Cert.ReferenceIdeal.S8960x48 .bf16)
  (h1 : ∀ k : Fin 1536, Bd (2 ^ 56) (a1 (ValueIdx.ix1 k))) (h3 : ∀ (n : Fin 8960) (g : Fin 48), Bd (2 ^ 56) (a3 (ValueIdx.ix2 n g)))
include h1 h3

theorem term_bd (r : Fin 1024) (n : Fin 8960) (o : Fin 2) (k : Fin 768) : Bd (2 ^ 121) (term a0 a1 a2 a3 r n o k) := by
  unfold term
  refine ((nval_bd _ _ h1 _).mul ((?_ : Bd 8 _).mul (h3 _ _))).mono (by norm_num)
  split
  · exact qlo_bd _
  · exact qhi_bd _

/-- The product's elements have magnitude at most `1536 * 2^121`. -/
theorem href_bd (r : Fin 1024) (n : Fin 8960) : Bd (2 ^ 132) (href a0 a1 a2 a3 r n) := by
  unfold href
  refine ((Bd.sum _ fun k => term_bd a0 a1 a2 a3 h1 h3 r n 0 k).add (Bd.sum _ fun k => term_bd a0 a1 a2 a3 h1 h3 r n 1 k)).mono ?_
  rw [Finset.card_univ, Fintype.card_fin]
  norm_num
end

/-! ## The row's largest magnitude -/

theorem rowmax_bd {B : ℝ} (f : Fin 128 → EReal) (h : ∀ l, Bd B (f l)) : ∃ r : ℝ, rowmax f = (r : EReal) ∧ 0 ≤ r ∧ r ≤ B := by
  have hle : rowmax f ≤ (B : EReal) := by
    unfold rowmax
    rw [Finset.fold_max_le, lit_ninf]
    refine ⟨bot_le, fun k _ => ?_⟩
    obtain ⟨r, e, hr⟩ := h k
    rw [e, ← EReal.coe_neg]
    exact max_le (EReal.coe_le_coe_iff.mpr (abs_le.mp hr).2) (EReal.coe_le_coe_iff.mpr (by linarith [(abs_le.mp hr).1]))
  have hge : (0 : EReal) ≤ rowmax f := by
    unfold rowmax
    rw [Finset.le_fold_max]
    refine Or.inr ⟨0, Finset.mem_univ _, ?_⟩
    obtain ⟨r, e, hr⟩ := h 0
    rw [e, ← EReal.coe_neg, le_max_iff]
    rcases le_total 0 r with h | h
    · exact Or.inl (by exact_mod_cast h)
    · exact Or.inr (by exact_mod_cast neg_nonneg.mpr h)
  generalize rowmax f = z at hle hge
  induction z using EReal.rec with
  | bot => simp at hge
  | top => simp at hle
  | coe r => exact ⟨r, rfl, by exact_mod_cast hge, by exact_mod_cast hle⟩

/-- What the scale's lemma asks of a row's block. -/
theorem scale_hyps (f : Fin 128 → EReal) (h : ∀ l, Bd (2 ^ 132) (f l)) :
    0 ≤ tval f ∧ tval f < (((2 : ℝ) ^ (126 : ℤ) : ℝ) : EReal) ∧ (rowmax f = 0 ↔ tval f = 0) := by
  obtain ⟨r, e, h0, hB⟩ := rowmax_bd f h
  obtain ⟨c, hc, hc', hl⟩ := lit_inv448
  unfold tval
  rw [e, hl, ← EReal.coe_mul]
  refine ⟨by exact_mod_cast mul_nonneg h0 hc.le, EReal.coe_lt_coe_iff.mpr ?_, ?_⟩
  · calc r * c ≤ 2 ^ 132 * (1 / 256) := mul_le_mul hB hc' hc.le (by positivity)
      _ < _ := by norm_num
  · rw [EReal.coe_eq_zero, EReal.coe_eq_zero, mul_eq_zero]
    exact ⟨Or.inl, fun h => h.resolve_right hc.ne'⟩

/-- A block's scale as the kernel makes it from bits, and its inverse, are the reference's powers of two. -/
theorem scale_eq (f : Fin 128 → EReal) (h : ∀ l, Bd (2 ^ 132) (f l)) :
    Ideal.ofBits .f32 (Scales.sbits (tval f)) = Ideal.exp2 (Scales.eref (rowmax f) (tval f))
    ∧ Ideal.ofBits .f32 (2130706432#32 - Scales.sbits (tval f)) = Ideal.exp2 (Ideal.ofBits .f32 0#32 - Scales.eref (rowmax f) (tval f)) :=
  Scales.scale_eq _ _ (scale_hyps f h).1 (scale_hyps f h).2.1 (scale_hyps f h).2.2

/-! ## The precondition -/

theorem bd_of_le {B : ℝ} (x : EReal) (h : max x (-x) ≤ (B : EReal)) : Bd B x := by
  obtain ⟨h1, h2⟩ := max_le_iff.mp h
  induction x using EReal.rec with
  | bot => simp at h2
  | top => simp at h1
  | coe r =>
    rw [← EReal.coe_neg] at h2
    exact ⟨r, rfl, abs_le.mpr ⟨by linarith [EReal.coe_le_coe_iff.mp h2], EReal.coe_le_coe_iff.mp h1⟩⟩

theorem ofBool_one {p : Prop} [Decidable p] (h : BitVec.ofBool (decide p) = 1#1) : p := by
  by_contra hp
  rw [decide_eq_false hp] at h
  exact absurd h (by decide)

/-- The precondition bounds the gains and the weight scales. -/
theorem of_pre [Cert.Pre_scales_bounded.Facts] (a0 : Vec Ideal Cert.ReferenceIdeal.S1024x1x1536 .bf16) (a1 : Vec Ideal Cert.ReferenceIdeal.S1536 .f32)
    (a2 : Vec Ideal Cert.ReferenceIdeal.S8960x768 .i8) (a3 : Vec Ideal Cert.ReferenceIdeal.S8960x48 .bf16)
    (h : (Cert.Pre_scales_bounded.fn (F := Ideal) a0 a1 a2 a3).1 = (fun _ => 1#1) ∧ (Cert.Pre_scales_bounded.fn (F := Ideal) a0 a1 a2 a3).2 = (fun _ => 1#1)) :
    (∀ k : Fin 1536, Bd (2 ^ 56) (a1 (ValueIdx.ix1 k))) ∧ (∀ (n : Fin 8960) (g : Fin 48), Bd (2 ^ 56) (a3 (ValueIdx.ix2 n g))) := by
  constructor
  · intro k
    have e : BitVec.ofBool (decide (max (a1 (ValueIdx.ix1 k)) (-(a1 (ValueIdx.ix1 k))) ≤ Ideal.ofBits .f32 0x5B800000#32)) = 1#1 := congrFun h.1 (ValueIdx.ix1 k)
    rw [lit_bound32] at e
    exact bd_of_le _ (ofBool_one e)
  · intro n g
    have e : BitVec.ofBool (decide (max (a3 (ValueIdx.ix2 n g)) (-(a3 (ValueIdx.ix2 n g))) ≤ Ideal.ofBits .bf16 0x5B80#16)) = 1#1 := congrFun h.2 (ValueIdx.ix2 n g)
    rw [lit_bound16] at e
    exact bd_of_le _ (ofBool_one e)

end Cert.Bounds

end
-- ==== Proof.Equation.lean ====
/- The equation: on bounded gains and weight scales, what the kernel leaves in its result arrays is what the reference leaves. -/
module

public import proofs.«01_k».proof.Proof.Codes
public import proofs.«01_k».proof.Proof.Bounds
public import proofs.«01_k».proof.Proof.Gen.ReferenceIdeal.Value

@[expose] public section

set_option maxRecDepth 16384

noncomputable section

namespace Cert.Equation

open Idealize.ShloMosaic Idealize.ShloMosaic.TcCoe Idealize.SL.Sem
open Cert.KernelIdeal Cert.KernelIdeal.Gen Cert.KernelIdeal.Hand
open Cert.ReferenceIdeal.Hand (nrow term href hrow)

/-! ## The product -/

/-- A column of the permuted rows: the half of its group that it is in, and the byte of a weight row it meets. -/
def colEquiv : Fin 1536 ≃ Fin 2 × Fin 768 where
  toFun k := (⟨k.val / 128 % 2, by omega⟩, ⟨128 * (k.val / 256) + k.val % 128, by omega⟩)
  invFun p := ⟨256 * (p.2.val / 128) + 128 * p.1.val + p.2.val % 128, by omega⟩
  left_inv k := Fin.ext (by dsimp only; omega)
  right_inv p := Prod.ext (Fin.ext (by dsimp only; omega)) (Fin.ext (by dsimp only; omega))

/-- A sum over the permuted columns is the sum over the bytes of the low halves and that of the high halves. -/
theorem sum_cols (f : Fin 2 → Fin 768 → EReal) :
    ∑ k : Fin 1536, f (⟨k.val / 128 % 2, by omega⟩ : Fin 2) (⟨128 * (k.val / 256) + k.val % 128, by omega⟩ : Fin 768)
    = ∑ q : Fin 768, f 0 q + ∑ q : Fin 768, f 1 q := by
  rw [← Fin.sum_univ_two (fun o => ∑ q : Fin 768, f o q), ← Fintype.sum_prod_type' f]
  exact Fintype.sum_equiv colEquiv _ _ fun k => rfl

variable (m : (ℓ : Loc nD τ sig) → Buf (Elt Ideal) ℓ) (c : Dev nD)

/-- The arguments. -/
abbrev A0 : Vec Ideal S1024x1x1536 .bf16 := m ((c : Thread nD τ).loc main_arg0)
abbrev A1 : Vec Ideal S1536 .f32 := m ((c : Thread nD τ).loc main_arg1)
abbrev A2 : Vec Ideal S8960x768 .i8 := m ((c : Thread nD τ).loc main_arg2)
abbrev A3 : Vec Ideal S8960x48 .bf16 := m ((c : Thread nD τ).loc main_arg3)

/-- Tile `t`'s product is its columns of the reference's product. -/
theorem HS_apply (t : Fin 35) (r : Fin 1024) (i : Fin 256) :
    HS m c t (ValueIdx.ix2 r i) = href (A0 m c) (A1 m c) (A2 m c) (A3 m c) r ⟨256 * t.val + i.val, by omega⟩ := by
  unfold HS
  rw [HT_apply]
  refine Eq.trans (Finset.sum_congr rfl fun k _ => ?_)
    (sum_cols fun o q => term (A0 m c) (A1 m c) (A2 m c) (A3 m c) r ⟨256 * t.val + i.val, by omega⟩ o q)
  unfold XNc
  rw [XN_apply]
  unfold WV term nrow
  simp only [block0, block1, block2, block3]
  have hc : col k = ⟨32 * ((128 * (k.val / 256) + k.val % 128) / 16) + (16 * (k.val / 128 % 2) + (128 * (k.val / 256) + k.val % 128) % 16), by omega⟩ := by
    unfold col perm
    apply Fin.ext
    dsimp only
    omega
  have hg : (⟨8 * (k.val / 256) + k.val % 128 / 16, by omega⟩ : Fin 48) = ⟨(128 * (k.val / 256) + k.val % 128) / 16, by omega⟩ :=
    Fin.ext (by dsimp only; omega)
  rw [hc, hg]
  rfl

/-- Row `i` of block `(r, o)` of tile `t` is a row's block of the reference's product. -/
theorem HBLK_row (t : Fin 35) (r : Fin 8) (o : Fin 2) (i : Fin 128) :
    (fun l : Fin 128 => HBLK (HS m c t) r o (ValueIdx.ix2 i l))
    = hrow (A0 m c) (A1 m c) (A2 m c) (A3 m c) ⟨128 * r.val + i.val, by omega⟩ ⟨2 * t.val + o.val, by omega⟩ := by
  funext l
  unfold HBLK hrow
  rw [extractStridedSlice_apply _ _ _ _ (ValueIdx.ix2 (⟨128 * r.val + i.val, by omega⟩ : Fin 1024) (⟨128 * o.val + l.val, by omega⟩ : Fin 256)) (by
    intro a
    match a with
    | ⟨0, _⟩ => rfl
    | ⟨1, _⟩ => rfl), HS_apply]
  exact congrArg (href (A0 m c) (A1 m c) (A2 m c) (A3 m c) _) (Fin.ext (by dsimp only; omega))

/-! ## The results -/

section
variable (a0 : Vec Ideal S1024x1x1536 .bf16) (a1 : Vec Ideal S1536 .f32) (a2 : Vec Ideal S8960x768 .i8) (a3 : Vec Ideal S8960x48 .bf16)

/-- The reference's body reads whole arrays: its high fields, … -/
theorem fields_eq : Cert.ReferenceIdeal.Gen.k0_pay9 a0 a1 a2 a3 = Cert.ReferenceIdeal.Gen.k0_pay6 a2 a3 := by
  unfold Cert.ReferenceIdeal.Gen.k0_pay9
  rw [View.ld_unit_zero Cert.ReferenceIdeal.Value.hz2, View.ld_unit_zero Cert.ReferenceIdeal.Value.hz3]
/-- … its rows … -/
theorem rows_eq : Cert.ReferenceIdeal.Gen.k0_pay10 a0 a1 a2 a3 = Cert.ReferenceIdeal.Gen.k0_pay7 a0 a1 := by
  unfold Cert.ReferenceIdeal.Gen.k0_pay10
  rw [View.ld_unit_zero Cert.ReferenceIdeal.Value.hz0, View.ld_unit_zero Cert.ReferenceIdeal.Value.hz1]
/-- … and its product with the low fields. -/
theorem product_eq : Cert.ReferenceIdeal.Gen.k0_pay11 a0 a1 a2 a3 = Cert.ReferenceIdeal.Gen.k0_pay8 a0 a1 a2 a3 := by
  unfold Cert.ReferenceIdeal.Gen.k0_pay11
  rw [View.ld_unit_zero Cert.ReferenceIdeal.Value.hz0, View.ld_unit_zero Cert.ReferenceIdeal.Value.hz1,
    View.ld_unit_zero Cert.ReferenceIdeal.Value.hz2, View.ld_unit_zero Cert.ReferenceIdeal.Value.hz3]
end

/-- A code of the reference's result. -/
theorem G4_apply (a0 : Vec Ideal S1024x1x1536 .bf16) (a1 : Vec Ideal S1536 .f32) (a2 : Vec Ideal S8960x768 .i8) (a3 : Vec Ideal S8960x48 .bf16)
    (r : Fin 1024) (b : Fin 70) (l : Fin 128) (hb : ∀ l, Bounds.Bd (2 ^ 132) (hrow a0 a1 a2 a3 r b l)) :
    Cert.ReferenceIdeal.Value.G4 a0 a1 a2 a3 (ValueIdx.ix2 r (⟨128 * b.val + l.val, by omega⟩ : Fin 8960))
    = min (Ideal.ofBits .f32 0x43E00000#32) (max (Ideal.ofBits .f32 0xC3E00000#32)
        (hrow a0 a1 a2 a3 r b l * Ideal.ofBits .f32 (2130706432#32 - Scales.sbits (tval (hrow a0 a1 a2 a3 r b))))) := by
  rw [(Bounds.scale_eq _ hb).2, ← Cert.ReferenceIdeal.Hand.codes_apply]
  unfold Cert.ReferenceIdeal.Value.G4
  rw [fields_eq, rows_eq, product_eq]

/-- A scale of the reference's result. -/
theorem G5_apply (a0 : Vec Ideal S1024x1x1536 .bf16) (a1 : Vec Ideal S1536 .f32) (a2 : Vec Ideal S8960x768 .i8) (a3 : Vec Ideal S8960x48 .bf16)
    (r : Fin 1024) (b : Fin 70) (hb : ∀ l, Bounds.Bd (2 ^ 132) (hrow a0 a1 a2 a3 r b l)) :
    Cert.ReferenceIdeal.Value.G5 a0 a1 a2 a3 (ValueIdx.ix3 b (0 : Fin 1) r)
    = Ideal.ofBits .f32 (Scales.sbits (tval (hrow a0 a1 a2 a3 r b))) := by
  rw [(Bounds.scale_eq _ hb).1, ← Cert.ReferenceIdeal.Hand.scales_apply]
  unfold Cert.ReferenceIdeal.Value.G5
  rw [fields_eq, rows_eq, product_eq]

/-- A code of the kernel's result. -/
theorem CODESA_apply (t : Fin 35) (rb : Fin 8) (i : Fin 128) (o : Fin 2) (l : Fin 128) :
    CODESA (HS m c) (ValueIdx.ix2 (⟨128 * rb.val + i.val, by omega⟩ : Fin 1024) (⟨128 * (2 * t.val + o.val) + l.val, by omega⟩ : Fin 8960))
    = QC (HBLK (HS m c t) rb o) (ValueIdx.ix2 i l) := by
  have e0 : (⟨(128 * (2 * t.val + o.val) + l.val) / 256, by omega⟩ : Fin 35) = t := Fin.ext (by dsimp only; omega)
  have e1 : (⟨(128 * rb.val + i.val) / 128, by omega⟩ : Fin 8) = rb := Fin.ext (by dsimp only; omega)
  have e2 : (⟨(128 * (2 * t.val + o.val) + l.val) % 256 / 128, by omega⟩ : Fin 2) = o := Fin.ext (by dsimp only; omega)
  have e3 : (⟨(128 * rb.val + i.val) % 128, by omega⟩ : Fin 128) = i := Fin.ext (by dsimp only; omega)
  have e4 : (⟨(128 * (2 * t.val + o.val) + l.val) % 256 % 128, by omega⟩ : Fin 128) = l := Fin.ext (by dsimp only; omega)
  show QC (HBLK (HS m c ⟨(128 * (2 * t.val + o.val) + l.val) / 256, _⟩) ⟨(128 * rb.val + i.val) / 128, _⟩ ⟨(128 * (2 * t.val + o.val) + l.val) % 256 / 128, _⟩)
    (ValueIdx.ix2 ⟨(128 * rb.val + i.val) % 128, _⟩ ⟨(128 * (2 * t.val + o.val) + l.val) % 256 % 128, _⟩) = _
  rw [e0, e1, e2, e3, e4]

/-- A scale of the kernel's result. -/
theorem SCALES_apply (t : Fin 35) (rb : Fin 8) (i : Fin 128) (o : Fin 2) :
    SCALES (HS m c) (ValueIdx.ix3 (⟨2 * t.val + o.val, by omega⟩ : Fin 70) (0 : Fin 1) (⟨128 * rb.val + i.val, by omega⟩ : Fin 1024))
    = QS (HBLK (HS m c t) rb o) (ValueIdx.ix3 (0 : Fin 1) (0 : Fin 1) i) := by
  have e0 : (⟨(2 * t.val + o.val) / 2, by omega⟩ : Fin 35) = t := Fin.ext (by dsimp only; omega)
  have e1 : (⟨(128 * rb.val + i.val) / 128, by omega⟩ : Fin 8) = rb := Fin.ext (by dsimp only; omega)
  have e2 : (⟨(2 * t.val + o.val) % 2, by omega⟩ : Fin 2) = o := Fin.ext (by dsimp only; omega)
  have e3 : (⟨(128 * rb.val + i.val) % 128, by omega⟩ : Fin 128) = i := Fin.ext (by dsimp only; omega)
  show QS (HBLK (HS m c ⟨(2 * t.val + o.val) / 2, _⟩) ⟨(128 * rb.val + i.val) / 128, _⟩ ⟨(2 * t.val + o.val) % 2, _⟩)
    (ValueIdx.ix3 0 0 ⟨(128 * rb.val + i.val) % 128, _⟩) = _
  rw [e0, e1, e2, e3]

section
variable (h1 : ∀ k : Fin 1536, Bounds.Bd (2 ^ 56) (A1 m c (ValueIdx.ix1 k)))
  (h3 : ∀ (n : Fin 8960) (g : Fin 48), Bounds.Bd (2 ^ 56) (A3 m c (ValueIdx.ix2 n g)))
include h1 h3

theorem hrow_bd (r : Fin 1024) (b : Fin 70) (l : Fin 128) : Bounds.Bd (2 ^ 132) (hrow (A0 m c) (A1 m c) (A2 m c) (A3 m c) r b l) :=
  Bounds.href_bd (A0 m c) (A1 m c) (A2 m c) (A3 m c) h1 h3 r _

/-- The kernel's codes are the reference's. -/
theorem codes_eq : CODESA (HS m c) = Cert.ReferenceIdeal.Value.G4 (A0 m c) (A1 m c) (A2 m c) (A3 m c) := by
  funext y
  obtain ⟨t, rb, i, o, l, rfl⟩ : ∃ (t : Fin 35) (rb : Fin 8) (i : Fin 128) (o : Fin 2) (l : Fin 128),
      y = ValueIdx.ix2 (⟨128 * rb.val + i.val, by omega⟩ : Fin 1024) (⟨128 * (2 * t.val + o.val) + l.val, by omega⟩ : Fin 8960) := by
    have hy0 : (y 0).val < 1024 := (y 0).isLt
    have hy1 : (y 1).val < 8960 := (y 1).isLt
    refine ⟨⟨(y 1).val / 256, by omega⟩, ⟨(y 0).val / 128, by omega⟩, ⟨(y 0).val % 128, by omega⟩, ⟨(y 1).val / 128 % 2, by omega⟩,
      ⟨(y 1).val % 128, by omega⟩, funext fun a => ?_⟩
    match a with
    | ⟨0, _⟩ => exact Fin.ext (by show (y 0).val = 128 * ((y 0).val / 128) + (y 0).val % 128; omega)
    | ⟨1, _⟩ => exact Fin.ext (by show (y 1).val = 128 * (2 * ((y 1).val / 256) + (y 1).val / 128 % 2) + (y 1).val % 128; omega)
  have hk := HBLK_row m c t rb o i
  have hg := G4_apply (A0 m c) (A1 m c) (A2 m c) (A3 m c) ⟨128 * rb.val + i.val, by omega⟩ ⟨2 * t.val + o.val, by omega⟩ l (hrow_bd m c h1 h3 _ _)
  rw [CODESA_apply, QC_apply, hk, congrFun hk l]
  exact hg.symm

/-- The kernel's scales are the reference's. -/
theorem scales_eq : SCALES (HS m c) = Cert.ReferenceIdeal.Value.G5 (A0 m c) (A1 m c) (A2 m c) (A3 m c) := by
  funext y
  obtain ⟨t, rb, i, o, rfl⟩ : ∃ (t : Fin 35) (rb : Fin 8) (i : Fin 128) (o : Fin 2),
      y = ValueIdx.ix3 (⟨2 * t.val + o.val, by omega⟩ : Fin 70) (0 : Fin 1) (⟨128 * rb.val + i.val, by omega⟩ : Fin 1024) := by
    have hy0 : (y 0).val < 70 := (y 0).isLt
    have hy1 : (y 1).val < 1 := (y 1).isLt
    have hy2 : (y 2).val < 1024 := (y 2).isLt
    refine ⟨⟨(y 0).val / 2, by omega⟩, ⟨(y 2).val / 128, by omega⟩, ⟨(y 2).val % 128, by omega⟩, ⟨(y 0).val % 2, by omega⟩, funext fun a => ?_⟩
    match a with
    | ⟨0, _⟩ => exact Fin.ext (by show (y 0).val = 2 * ((y 0).val / 2) + (y 0).val % 2; omega)
    | ⟨1, _⟩ => exact Fin.ext (by show (y 1).val = 0; omega)
    | ⟨2, _⟩ => exact Fin.ext (by show (y 2).val = 128 * ((y 2).val / 128) + (y 2).val % 128; omega)
  have hk := HBLK_row m c t rb o i
  have hg := G5_apply (A0 m c) (A1 m c) (A2 m c) (A3 m c) ⟨128 * rb.val + i.val, by omega⟩ ⟨2 * t.val + o.val, by omega⟩ (hrow_bd m c h1 h3 _ _)
  rw [SCALES_apply, QS_apply, hk]
  exact hg.symm
end

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Gen.Pre_scales_bounded
public import proofs.«01_k».proof.Proof.FrameHand
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- On bounded gains and weight scales the idealized kernel and the idealized reference leave the same codes and the same scales. -/
theorem algebraic : Cert.algebraic_KernelIdeal_ReferenceIdeal_pre_scales_bounded (hKernelIdeal := Cert.KernelIdeal.Gen.facts)
    (hReferenceIdeal := Cert.ReferenceIdeal.Gen.facts) (hPre_scales_bounded := Cert.Pre_scales_bounded.Gen.facts) := by
  intro m g m' g' hpre hargs
  refine ⟨fun c => Cert.KernelIdeal.Hand.CODESA (Cert.KernelIdeal.Hand.HS m c), fun c => Cert.KernelIdeal.Hand.SCALES (Cert.KernelIdeal.Hand.HS m c), ?_, ?_⟩
  · refine (θ_run _ _ _).mono (fun r h c => ?_) (Cert.KernelIdeal.Hand.run_main m g)
    exact ⟨Cert.KernelIdeal.Hand.codes_of m h.1 c, Cert.KernelIdeal.Hand.scales_of m h.1 c, Cert.KernelIdeal.Hand.args_of m h.1 c⟩
  · refine (θ_run _ _ _).mono (fun r h c => ?_) (Cert.ReferenceIdeal.Value.run m' g')
    obtain ⟨h4, h5, hk⟩ := h c
    obtain ⟨e0, e1, e2, e3⟩ := hargs c
    obtain ⟨b1, b3⟩ := Cert.Bounds.of_pre _ _ _ _ (hpre c)
    refine ⟨h4.trans ?_, h5.trans ?_, hk⟩
    · rw [e0, e1, e2, e3]
      exact (Cert.Equation.codes_eq m c b1 b3).symm
    · rw [e0, e1, e2, e3]
      exact (Cert.Equation.scales_eq m c b1 b3).symm

theorem claim : Cert.Claim := ⟨Cert.Kernel.Gen.facts, Cert.KernelIdeal.Gen.facts, Cert.ReferenceIdeal.Gen.facts, Cert.Pre_scales_bounded.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  IdealRules.named_const.statement Cert.KernelIdeal.κ "inv_k" .f32 0x3A2AAAAB#32 ((1 / 1536 : ℝ) : EReal) rfl,
  algebraic⟩

end Cert.Proof

end
